-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lengths_in_range_and_finite [hPre_lengths_in_range_and_finite : Cert.Pre_lengths_in_range_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_in_range_and_finite [hPre_lengths_in_range_and_finite : Cert.Pre_lengths_in_range_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_lengths_in_range_and_finite [hKernelIdeal : Cert.KernelIdeal.Facts] [hPre_lengths_in_range_and_finite : Cert.Pre_lengths_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lengths_in_range_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_lengths_in_range_and_finite [hReferenceIdeal : Cert.ReferenceIdeal.Facts] [hPre_lengths_in_range_and_finite : Cert.Pre_lengths_in_range_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_in_range_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_lengths_in_range_and_finite [hKernelIdeal : Cert.KernelIdeal.Facts] [hReferenceIdeal : Cert.ReferenceIdeal.Facts] [hPre_lengths_in_range_and_finite : Cert.Pre_lengths_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lengths_in_range_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_v185) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_lengths_in_range_and_finite : Cert.Pre_lengths_in_range_and_finite.Facts),
    quiescent_Kernel (hKernel := hKernel)
    ∧ quiescent_KernelIdeal (hKernelIdeal := hKernelIdeal)
    ∧ quiescent_KernelIdeal_pre_lengths_in_range_and_finite (hKernelIdeal := hKernelIdeal) (hPre_lengths_in_range_and_finite := hPre_lengths_in_range_and_finite)
    ∧ quiescent_ReferenceIdeal (hReferenceIdeal := hReferenceIdeal)
    ∧ quiescent_ReferenceIdeal_pre_lengths_in_range_and_finite (hReferenceIdeal := hReferenceIdeal) (hPre_lengths_in_range_and_finite := hPre_lengths_in_range_and_finite)
    ∧ preserves_Kernel_KernelIdeal
    ∧ algebraic_KernelIdeal_ReferenceIdeal_pre_lengths_in_range_and_finite (hKernelIdeal := hKernelIdeal) (hReferenceIdeal := hReferenceIdeal) (hPre_lengths_in_range_and_finite := hPre_lengths_in_range_and_finite)
-- ==== Pre_lengths_in_range_and_finite.lean ====
abbrev S4x512x256 : Shape := ⟨3, ![4, 512, 256]⟩
abbrev S4 : Shape := ⟨1, ![4]⟩
abbrev S4x8x2 : Shape := ⟨3, ![4, 8, 2]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S256x2 : Shape := ⟨2, ![256, 2]⟩
abbrev S2 : Shape := ⟨1, ![2]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel
  bcast_S_S4x512x256 : S_.BroadcastsInDim S4x512x256 (![] : Fin 0 → Fin S4x512x256.rank)
  reducesTo_S4x512x256_S_d0_1_2 : S4x512x256.ReducesTo [0, 1, 2] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S1 .f32) (main_arg9 : FVec F S256x2 .f32) (main_arg10 : FVec F S2 .f32) (main_v29 : IVec S_ 1) (main_v32 : IVec S64x1 1) (main_c_12 : IVec S_ 1) : IVec S_ 1 :=
  let main_v33 : IVec S_ 1 := (fun x v => Host.reduce IntOp.andi x v reducesTo_S64x1_S_d0_1 h_S_) main_v32 main_c_12
  let main_v34 : IVec S_ 1 := andi main_v29 main_v33
  let main_v35 : FVec F S1 .f32 := Host.absf main_arg8
  let main_cst_13 : FVec F S_ .f32 := constant S_ .f32 0x7F800000#32
  let main_v36 : FVec F S1 .f32 := broadcastInDim S1 ![] bcast_S_S1 main_cst_13
  let main_v37 : IVec S1 1 := cmpf .olt main_v35 main_v36
  let main_c_14 : IVec S_ 1 := constantI S_ 1 1#1
  let main_v38 : IVec S_ 1 := (fun x v => Host.reduce IntOp.andi x v reducesTo_S1_S_d0 h_S_) main_v37 main_c_14
  let main_v39 : IVec S_ 1 := andi main_v34 main_v38
  let main_v40 : FVec F S256x2 .f32 := Host.absf main_arg9
  let main_cst_15 : FVec F S_ .f32 := constant S_ .f32 0x7F800000#32
  let main_v41 : FVec F S256x2 .f32 := broadcastInDim S256x2 ![] bcast_S_S256x2 main_cst_15
  let main_v42 : IVec S256x2 1 := cmpf .olt main_v40 main_v41
  let main_c_16 : IVec S_ 1 := constantI S_ 1 1#1
  let main_v43 : IVec S_ 1 := (fun x v => Host.reduce IntOp.andi x v reducesTo_S256x2_S_d0_1 h_S_) main_v42 main_c_16
  let main_v44 : IVec S_ 1 := andi main_v39 main_v43
  let main_v45 : FVec F S2 .f32 := Host.absf main_arg10
  let main_cst_17 : FVec F S_ .f32 := constant S_ .f32 0x7F800000#32
  let main_v46 : FVec F S2 .f32 := broadcastInDim S2 ![] bcast_S_S2 main_cst_17
  let main_v47 : IVec S2 1 := cmpf .olt main_v45 main_v46
  let main_c_18 : IVec S_ 1 := constantI S_ 1 1#1
  let main_v48 : IVec S_ 1 := (fun x v => Host.reduce IntOp.andi x v reducesTo_S2_S_d0 h_S_) main_v47 main_c_18
  let main_v49 : IVec S_ 1 := andi main_v44 main_v48
  main_v49

def fn_part1 {F : FTy → Type} [FloatOps F] (main_arg5 : FVec F S256x64 .f32) (main_arg6 : FVec F S64 .f32) (main_arg7 : FVec F S64x1 .f32) (main_arg8 : FVec F S1 .f32) (main_arg9 : FVec F S256x2 .f32) (main_arg10 : FVec F S2 .f32) (main_v15 : IVec S_ 1) (main_v16 : FVec F S256 .f32) : IVec S_ 1 :=
  let main_cst_5 : FVec F S_ .f32 := constant S_ .f32 0x7F800000#32
  let main_v17 : FVec F S256 .f32 := broadcastInDim S256 ![] bcast_S_S256 main_cst_5
  let main_v18 : IVec S256 1 := cmpf .olt main_v16 main_v17
  let main_c_6 : IVec S_ 1 := constantI S_ 1 1#1
  let main_v19 : IVec S_ 1 := (fun x v => Host.reduce IntOp.andi x v reducesTo_S256_S_d0 h_S_) main_v18 main_c_6
  let main_v20 : IVec S_ 1 := andi main_v15 main_v19
  let main_v21 : FVec F S256x64 .f32 := Host.absf main_arg5
  let main_cst_7 : FVec F S_ .f32 := constant S_ .f32 0x7F800000#32
  let main_v22 : FVec F S256x64 .f32 := broadcastInDim S256x64 ![] bcast_S_S256x64 main_cst_7
  let main_v23 : IVec S256x64 1 := cmpf .olt main_v21 main_v22
  let main_c_8 : IVec S_ 1 := constantI S_ 1 1#1
  let main_v24 : IVec S_ 1 := (fun x v => Host.reduce IntOp.andi x v reducesTo_S256x64_S_d0_1 h_S_) main_v23 main_c_8
  let main_v25 : IVec S_ 1 := andi main_v20 main_v24
  let main_cst_9 : FVec F S_ .f32 := constant S_ .f32 0x00000000#32
  let main_v26 : FVec F S64 .f32 := broadcastInDim S64 ![] bcast_S_S64 main_cst_9
  let main_v27 : IVec S64 1 := cmpf .oeq main_arg6 main_v26
  let main_c_10 : IVec S_ 1 := constantI S_ 1 1#1
  let main_v28 : IVec S_ 1 := (fun x v => Host.reduce IntOp.andi x v reducesTo_S64_S_d0 h_S_) main_v27 main_c_10
  let main_v29 : IVec S_ 1 := andi main_v25 main_v28
  let main_v30 : FVec F S64x1 .f32 := Host.absf main_arg7
  let main_cst_11 : FVec F S_ .f32 := constant S_ .f32 0x7F800000#32
  let main_v31 : FVec F S64x1 .f32 := broadcastInDim S64x1 ![] bcast_S_S64x1 main_cst_11
  let main_v32 : IVec S64x1 1 := cmpf .olt main_v30 main_v31
  let main_c_12 : IVec S_ 1 := constantI S_ 1 1#1
  fn_part2 (F := F) main_arg8 main_arg9 main_arg10 main_v29 main_v32 main_c_12

def fn {F : FTy → Type} [FloatOps F] (main_arg0 : FVec F S4x512x256 .f32) (main_arg1 : IVec S4 32) (main_arg2 : IVec S4x8x2 32) (main_arg3 : FVec F S256 .f32) (main_arg4 : FVec F S256 .f32) (main_arg5 : FVec F S256x64 .f32) (main_arg6 : FVec F S64 .f32) (main_arg7 : FVec F S64x1 .f32) (main_arg8 : FVec F S1 .f32) (main_arg9 : FVec F S256x2 .f32) (main_arg10 : FVec F S2 .f32) : IVec S_ 1 :=
  let main_c : IVec S_ 32 := constantI S_ 32 0#32
  let main_v0 : IVec S4 32 := broadcastInDim S4 ![] bcast_S_S4 main_c
  let main_v1 : IVec S4 1 := cmpi .sge main_arg1 main_v0
  let main_c_0 : IVec S_ 32 := constantI S_ 32 512#32
  let main_v2 : IVec S4 32 := broadcastInDim S4 ![] bcast_S_S4 main_c_0
  let main_v3 : IVec S4 1 := cmpi .sle main_arg1 main_v2
  let main_v4 : IVec S4 1 := andi main_v1 main_v3
  let main_c_1 : IVec S_ 1 := constantI S_ 1 1#1
  let main_v5 : IVec S_ 1 := (fun x v => Host.reduce IntOp.andi x v reducesTo_S4_S_d0 h_S_) main_v4 main_c_1
  let main_v6 : FVec F S4x512x256 .f32 := Host.absf main_arg0
  let main_cst : FVec F S_ .f32 := constant S_ .f32 0x7F800000#32
  let main_v7 : FVec F S4x512x256 .f32 := broadcastInDim S4x512x256 ![] bcast_S_S4x512x256 main_cst
  let main_v8 : IVec S4x512x256 1 := cmpf .olt main_v6 main_v7
  let main_c_2 : IVec S_ 1 := constantI S_ 1 1#1
  let main_v9 : IVec S_ 1 := (fun x v => Host.reduce IntOp.andi x v reducesTo_S4x512x256_S_d0_1_2 h_S_) main_v8 main_c_2
  let main_v10 : IVec S_ 1 := andi main_v5 main_v9
  let main_v11 : FVec F S256 .f32 := Host.absf main_arg3
  let main_cst_3 : FVec F S_ .f32 := constant S_ .f32 0x7F800000#32
  let main_v12 : FVec F S256 .f32 := broadcastInDim S256 ![] bcast_S_S256 main_cst_3
  let main_v13 : IVec S256 1 := cmpf .olt main_v11 main_v12
  let main_c_4 : IVec S_ 1 := constantI S_ 1 1#1
  let main_v14 : IVec S_ 1 := (fun x v => Host.reduce IntOp.andi x v reducesTo_S256_S_d0 h_S_) main_v13 main_c_4
  let main_v15 : IVec S_ 1 := andi main_v10 main_v14
  let main_v16 : FVec F S256 .f32 := Host.absf main_arg4
  fn_part1 (F := F) main_arg5 main_arg6 main_arg7 main_arg8 main_arg9 main_arg10 main_v15 main_v16
-- ==== Kernel.lean ====
abbrev S4x512x256 : Shape := ⟨3, ![4, 512, 256]⟩
abbrev S4 : Shape := ⟨1, ![4]⟩
abbrev S4x8x2 : Shape := ⟨3, ![4, 8, 2]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S256x2 : Shape := ⟨2, ![256, 2]⟩
abbrev S2 : Shape := ⟨1, ![2]⟩
abbrev S256x1 : Shape := ⟨2, ![256, 1]⟩
abbrev S4x512x16 : Shape := ⟨3, ![4, 512, 16]⟩
abbrev S1x1 : Shape := ⟨2, ![1, 1]⟩
abbrev S2048x256 : Shape := ⟨2, ![2048, 256]⟩
abbrev S256x67 : Shape := ⟨2, ![256, 67]⟩
abbrev S67x2048 : Shape := ⟨2, ![67, 2048]⟩
abbrev S1x2048 : Shape := ⟨2, ![1, 2048]⟩
abbrev S64x2048 : Shape := ⟨2, ![64, 2048]⟩
abbrev S1x512 : Shape := ⟨2, ![1, 512]⟩
abbrev S8x512 : Shape := ⟨2, ![8, 512]⟩
abbrev S16x16 : Shape := ⟨2, ![16, 16]⟩
abbrev S1x511 : Shape := ⟨2, ![1, 511]⟩
abbrev S1x2 : Shape := ⟨2, ![1, 2]⟩
abbrev S1x510 : Shape := ⟨2, ![1, 510]⟩
abbrev S1x3 : Shape := ⟨2, ![1, 3]⟩
abbrev S1x509 : Shape := ⟨2, ![1, 509]⟩
abbrev S1x4 : Shape := ⟨2, ![1, 4]⟩
abbrev S1x508 : Shape := ⟨2, ![1, 508]⟩
abbrev S1x5 : Shape := ⟨2, ![1, 5]⟩
abbrev S1x507 : Shape := ⟨2, ![1, 507]⟩
abbrev S1x6 : Shape := ⟨2, ![1, 6]⟩
abbrev S1x506 : Shape := ⟨2, ![1, 506]⟩
abbrev S1x7 : Shape := ⟨2, ![1, 7]⟩
abbrev S1x505 : Shape := ⟨2, ![1, 505]⟩
abbrev S512 : Shape := ⟨1, ![512]⟩
abbrev S16x512 : Shape := ⟨2, ![16, 512]⟩
abbrev S512x16 : Shape := ⟨2, ![512, 16]⟩
abbrev S1x512x16 : Shape := ⟨3, ![1, 512, 16]⟩
abbrev S1x1x1 : Shape := ⟨3, ![1, 1, 1]⟩
abbrev S1x8x512 : Shape := ⟨3, ![1, 8, 512]⟩
abbrev S4x512x8x2 : Shape := ⟨4, ![4, 512, 8, 2]⟩
abbrev S_ : Shape := ⟨0, ![]⟩

abbrev nBuf : Space → Nat
  | .hbm => 19
  | .vmem => 9
  | .smem => 4
  | _ => 0

abbrev bufTy : (tb : Table) → Fin (tcTables nBuf tb) → BufTy
  | .hbm, ⟨0, _⟩ => ⟨S4x512x256, .f32⟩
  | .hbm, ⟨1, _⟩ => ⟨S4, .i32⟩
  | .hbm, ⟨2, _⟩ => ⟨S4x8x2, .i32⟩
  | .hbm, ⟨3, _⟩ => ⟨S256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S256x2, .f32⟩
  | .hbm, ⟨10, _⟩ => ⟨S2, .f32⟩
  | .hbm, ⟨11, _⟩ => ⟨S256x1, .f32⟩
  | .hbm, ⟨12, _⟩ => ⟨S256x1, .f32⟩
  | .hbm, ⟨13, _⟩ => ⟨S4x512x16, .f32⟩
  | .hbm, ⟨14, _⟩ => ⟨S1x1, .f32⟩
  | .hbm, ⟨15, _⟩ => ⟨S1x1, .f32⟩
  | .hbm, ⟨16, _⟩ => ⟨S4x512x8x2, .f32⟩
  | .hbm, ⟨17, _⟩ => ⟨S_, .f32⟩
  | .hbm, ⟨18, _⟩ => ⟨S_, .f32⟩
  | .local _ .vmem, ⟨0, _⟩ => ⟨S4x512x256, .f32⟩
  | .local _ .vmem, ⟨1, _⟩ => ⟨S256x1, .f32⟩
  | .local _ .vmem, ⟨2, _⟩ => ⟨S256x1, .f32⟩
  | .local _ .vmem, ⟨3, _⟩ => ⟨S256x64, .f32⟩
  | .local _ .vmem, ⟨4, _⟩ => ⟨S64x1, .f32⟩
  | .local _ .vmem, ⟨5, _⟩ => ⟨S256x2, .f32⟩
  | .local _ .vmem, ⟨6, _⟩ => ⟨S4x512x16, .f32⟩
  | .local _ .vmem, ⟨7, _⟩ => ⟨S1x1, .f32⟩
  | .local _ .vmem, ⟨8, _⟩ => ⟨S1x1, .f32⟩
  | .local _ .smem, ⟨0, _⟩ => ⟨S4, .i32⟩
  | .local _ .smem, ⟨1, _⟩ => ⟨S4x8x2, .i32⟩
  | .local _ .smem, ⟨2, _⟩ => ⟨S1, .f32⟩
  | .local _ .smem, ⟨3, _⟩ => ⟨S2, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg8_0 : Ref sig .tc := ⟨.vmem, 5, rfl⟩
abbrev cc0_stg10_0 : Ref sig .tc := ⟨.vmem, 6, rfl⟩
abbrev cc0_stg11_0 : Ref sig .tc := ⟨.vmem, 7, rfl⟩
abbrev cc0_stg12_0 : Ref sig .tc := ⟨.vmem, 8, rfl⟩
abbrev cc0_stg1_0 : Ref sig .tc := ⟨.smem, 0, rfl⟩
abbrev cc0_stg2_0 : Ref sig .tc := ⟨.smem, 1, rfl⟩
abbrev cc0_stg7_0 : Ref sig .tc := ⟨.smem, 2, rfl⟩
abbrev cc0_stg9_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S4x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S4x8x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x512x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== ReferenceIdeal.lean ====
abbrev S4x512x256 : Shape := ⟨3, ![4, 512, 256]⟩
abbrev S4 : Shape := ⟨1, ![4]⟩
abbrev S4x8x2 : Shape := ⟨3, ![4, 8, 2]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S256x2 : Shape := ⟨2, ![256, 2]⟩
abbrev S2 : Shape := ⟨1, ![2]⟩
abbrev S512 : Shape := ⟨1, ![512]⟩
abbrev S1x512 : Shape := ⟨2, ![1, 512]⟩
abbrev S4x1 : Shape := ⟨2, ![4, 1]⟩
abbrev S4x512 : Shape := ⟨2, ![4, 512]⟩
abbrev S1x1x256 : Shape := ⟨3, ![1, 1, 256]⟩
abbrev S_ : Shape := ⟨0, ![]⟩
abbrev S4x512x1 : Shape := ⟨3, ![4, 512, 1]⟩
abbrev S8 : Shape := ⟨1, ![8]⟩
abbrev S512x1 : Shape := ⟨2, ![512, 1]⟩
abbrev S1x8 : Shape := ⟨2, ![1, 8]⟩
abbrev S512x8 : Shape := ⟨2, ![512, 8]⟩
abbrev S512x8x1 : Shape := ⟨3, ![512, 8, 1]⟩
abbrev S4x512x8x256 : Shape := ⟨4, ![4, 512, 8, 256]⟩
abbrev S1x1x1x256 : Shape := ⟨4, ![1, 1, 1, 256]⟩
abbrev S4x512x8x64 : Shape := ⟨4, ![4, 512, 8, 64]⟩
abbrev S1x1x1x64 : Shape := ⟨4, ![1, 1, 1, 64]⟩
abbrev S4x512x8x1 : Shape := ⟨4, ![4, 512, 8, 1]⟩
abbrev S1x1x1x1 : Shape := ⟨4, ![1, 1, 1, 1]⟩
abbrev S4x512x8 : Shape := ⟨3, ![4, 512, 8]⟩
abbrev S4x1x1 : Shape := ⟨3, ![4, 1, 1]⟩
abbrev S1x512x8 : Shape := ⟨3, ![1, 512, 8]⟩
abbrev S1x512x1 : Shape := ⟨3, ![1, 512, 1]⟩
abbrev S1x1x8 : Shape := ⟨3, ![1, 1, 8]⟩
abbrev S1x1x1x8 : Shape := ⟨4, ![1, 1, 1, 8]⟩
abbrev S4x512x8x8 : Shape := ⟨4, ![4, 512, 8, 8]⟩
abbrev S4x512x1x8 : Shape := ⟨4, ![4, 512, 1, 8]⟩
abbrev S4x512x8x2 : Shape := ⟨4, ![4, 512, 8, 2]⟩
abbrev S1x1x1x2 : Shape := ⟨4, ![1, 1, 1, 2]⟩
abbrev S4x8x1 : Shape := ⟨3, ![4, 8, 1]⟩
abbrev S4x8 : Shape := ⟨2, ![4, 8]⟩
abbrev S4x8x3 : Shape := ⟨3, ![4, 8, 3]⟩
abbrev S1x512x1x1 : Shape := ⟨4, ![1, 512, 1, 1]⟩
abbrev S4x1x1x8 : Shape := ⟨4, ![4, 1, 1, 8]⟩

abbrev nBuf : Space → Nat
  | .hbm => 316
  | .vmem => 0
  | .smem => 0
  | _ => 0

abbrev hbmTy0_0 (i : Nat) : BufTy := match i % 128 with
  | 0 => ⟨S4x512x256, .f32⟩
  | 1 => ⟨S4, .i32⟩
  | 2 => ⟨S4x8x2, .i32⟩
  | 3 => ⟨S256, .f32⟩
  | 4 => ⟨S256, .f32⟩
  | 5 => ⟨S256x64, .f32⟩
  | 6 => ⟨S64, .f32⟩
  | 7 => ⟨S64x1, .f32⟩
  | 8 => ⟨S1, .f32⟩
  | 9 => ⟨S256x2, .f32⟩
  | 10 => ⟨S2, .f32⟩
  | 11 => ⟨S512, .i32⟩
  | 12 => ⟨S1x512, .i32⟩
  | 13 => ⟨S4x1, .i32⟩
  | 14 => ⟨S4x512, .i32⟩
  | 15 => ⟨S4x512, .i32⟩
  | 16 => ⟨S4x512, .i1⟩
  | 17 => ⟨S1x1x256, .f32⟩
  | 18 => ⟨S4x512x256, .f32⟩
  | 19 => ⟨S4x512x256, .f32⟩
  | 20 => ⟨S_, .f32⟩
  | 21 => ⟨S4x512, .f32⟩
  | 22 => ⟨S_, .f32⟩
  | 23 => ⟨S_, .f32⟩
  | 24 => ⟨S4x512, .f32⟩
  | 25 => ⟨S4x512, .f32⟩
  | 26 => ⟨S_, .f32⟩
  | 27 => ⟨S4, .f32⟩
  | 28 => ⟨S_, .f32⟩
  | 29 => ⟨S4, .f32⟩
  | 30 => ⟨S4, .f32⟩
  | 31 => ⟨S4x1, .f32⟩
  | 32 => ⟨S4x512, .f32⟩
  | 33 => ⟨S4x512, .f32⟩
  | 34 => ⟨S4x512, .f32⟩
  | 35 => ⟨S_, .f32⟩
  | 36 => ⟨S4, .f32⟩
  | 37 => ⟨S4x1, .f32⟩
  | 38 => ⟨S4x512, .f32⟩
  | 39 => ⟨S4x512, .f32⟩
  | 40 => ⟨S4x512x1, .f32⟩
  | 41 => ⟨S4x512x256, .f32⟩
  | 42 => ⟨S4x512x256, .f32⟩
  | 43 => ⟨S8, .i32⟩
  | 44 => ⟨S512x1, .i32⟩
  | 45 => ⟨S1x8, .i32⟩
  | 46 => ⟨S512x8, .i32⟩
  | 47 => ⟨S512x8, .i32⟩
  | 48 => ⟨S512x8, .i32⟩
  | 49 => ⟨S_, .i32⟩
  | 50 => ⟨S_, .i32⟩
  | 51 => ⟨S_, .i32⟩
  | 52 => ⟨S512x8, .i32⟩
  | 53 => ⟨S512x8, .i32⟩
  | 54 => ⟨S_, .i32⟩
  | 55 => ⟨S512x8, .i32⟩
  | 56 => ⟨S512x8, .i32⟩
  | 57 => ⟨S_, .i32⟩
  | 58 => ⟨S512x8, .i32⟩
  | 59 => ⟨S512x8, .i1⟩
  | 60 => ⟨S_, .i32⟩
  | 61 => ⟨S512x8, .i32⟩
  | 62 => ⟨S512x8, .i32⟩
  | 63 => ⟨S512x8, .i32⟩
  | 64 => ⟨S512x8x1, .i32⟩
  | 65 => ⟨S4x512x8x256, .f32⟩
  | 66 => ⟨S1x1x1x256, .f32⟩
  | 67 => ⟨S4x512x8x256, .f32⟩
  | 68 => ⟨S4x512x8x256, .f32⟩
  | 69 => ⟨S4x512x8x64, .f32⟩
  | 70 => ⟨S1x1x1x64, .f32⟩
  | 71 => ⟨S4x512x8x64, .f32⟩
  | 72 => ⟨S4x512x8x64, .f32⟩
  | 73 => ⟨S_, .f32⟩
  | 74 => ⟨S4x512x8x64, .f32⟩
  | 75 => ⟨S4x512x8x64, .f32⟩
  | 76 => ⟨S4x512x8x1, .f32⟩
  | 77 => ⟨S1x1x1x1, .f32⟩
  | 78 => ⟨S4x512x8x1, .f32⟩
  | 79 => ⟨S4x512x8x1, .f32⟩
  | 80 => ⟨S4x512x8, .f32⟩
  | 81 => ⟨S8, .i32⟩
  | 82 => ⟨S512x1, .i32⟩
  | 83 => ⟨S1x8, .i32⟩
  | 84 => ⟨S512x8, .i32⟩
  | 85 => ⟨S512x8, .i32⟩
  | 86 => ⟨S512x8, .i32⟩
  | 87 => ⟨S4x1x1, .i32⟩
  | 88 => ⟨S_, .i32⟩
  | 89 => ⟨S4x1x1, .i32⟩
  | 90 => ⟨S4x1x1, .i32⟩
  | 91 => ⟨S1x512x8, .i32⟩
  | 92 => ⟨S4x512x8, .i32⟩
  | 93 => ⟨S4x512x8, .i32⟩
  | 94 => ⟨S4x512x8, .i32⟩
  | 95 => ⟨S_, .i32⟩
  | 96 => ⟨S4x512x8, .i32⟩
  | 97 => ⟨S4x512x8, .i32⟩
  | 98 => ⟨S1x512x1, .i32⟩
  | 99 => ⟨S4x1x1, .i32⟩
  | 100 => ⟨S4x512x1, .i32⟩
  | 101 => ⟨S4x512x1, .i32⟩
  | 102 => ⟨S4x512x1, .i1⟩
  | 103 => ⟨S1x1x8, .i32⟩
  | 104 => ⟨S_, .i32⟩
  | 105 => ⟨S1x1x8, .i32⟩
  | 106 => ⟨S1x1x8, .i1⟩
  | 107 => ⟨S1x512x8, .i32⟩
  | 108 => ⟨S4x512x8, .i32⟩
  | 109 => ⟨S4x512x8, .i32⟩
  | 110 => ⟨S4x512x8, .i1⟩
  | 111 => ⟨S4x512x8, .i1⟩
  | 112 => ⟨S4x512x8, .i1⟩
  | 113 => ⟨S4x512x8, .i1⟩
  | 114 => ⟨S4x512x8, .i1⟩
  | 115 => ⟨S1x512x1, .i32⟩
  | 116 => ⟨S4x512x8, .i32⟩
  | 117 => ⟨S4x512x8, .i32⟩
  | 118 => ⟨S1x1x1x8, .i32⟩
  | 119 => ⟨S4x512x8x1, .i32⟩
  | 120 => ⟨S4x512x8x8, .i32⟩
  | 121 => ⟨S4x512x8x8, .i32⟩
  | 122 => ⟨S4x512x8x8, .i1⟩
  | 123 => ⟨S4x512x1x8, .f32⟩
  | 124 => ⟨S_, .f32⟩
  | 125 => ⟨S_, .f32⟩
  | 126 => ⟨S4x512x8x8, .f32⟩
  | 127 => ⟨S4x512x8x8, .f32⟩
  | _ => ⟨S4x512x256, .f32⟩

abbrev hbmTy0_1 (i : Nat) : BufTy := match i % 128 with
  | 0 => ⟨S4x512x8x8, .f32⟩
  | 1 => ⟨S4x512x8x1, .i32⟩
  | 2 => ⟨S_, .i32⟩
  | 3 => ⟨S4x512x8x1, .i32⟩
  | 4 => ⟨S4x512x8x1, .i1⟩
  | 5 => ⟨S_, .f32⟩
  | 6 => ⟨S4x512x8, .f32⟩
  | 7 => ⟨S_, .f32⟩
  | 8 => ⟨S4x512x8, .f32⟩
  | 9 => ⟨S4x512x8, .f32⟩
  | 10 => ⟨S4x512x8x1, .f32⟩
  | 11 => ⟨S4x512x8x8, .f32⟩
  | 12 => ⟨S4x512x8x8, .f32⟩
  | 13 => ⟨S4x512x8x8, .f32⟩
  | 14 => ⟨S_, .f32⟩
  | 15 => ⟨S4x512x8, .f32⟩
  | 16 => ⟨S4x512x8x1, .f32⟩
  | 17 => ⟨S4x512x8x8, .f32⟩
  | 18 => ⟨S4x512x8x8, .f32⟩
  | 19 => ⟨S_, .f32⟩
  | 20 => ⟨S_, .f32⟩
  | 21 => ⟨S4x512x8x8, .i1⟩
  | 22 => ⟨S4x512x8x8, .f32⟩
  | 23 => ⟨S4x512x8x8, .f32⟩
  | 24 => ⟨S4x512x8x256, .f32⟩
  | 25 => ⟨S4x512x8x2, .f32⟩
  | 26 => ⟨S1x1x1x2, .f32⟩
  | 27 => ⟨S4x512x8x2, .f32⟩
  | 28 => ⟨S4x512x8x2, .f32⟩
  | 29 => ⟨S_, .i32⟩
  | 30 => ⟨S4, .i32⟩
  | 31 => ⟨S4, .i32⟩
  | 32 => ⟨S4x8x1, .i32⟩
  | 33 => ⟨S4x8, .i32⟩
  | 34 => ⟨S4x1, .i32⟩
  | 35 => ⟨S_, .i32⟩
  | 36 => ⟨S4x1, .i32⟩
  | 37 => ⟨S4x1, .i1⟩
  | 38 => ⟨S_, .i32⟩
  | 39 => ⟨S4x1, .i32⟩
  | 40 => ⟨S4x1, .i32⟩
  | 41 => ⟨S4x8, .i32⟩
  | 42 => ⟨S4x8, .i32⟩
  | 43 => ⟨S_, .i32⟩
  | 44 => ⟨S4x8, .i32⟩
  | 45 => ⟨S4x8, .i1⟩
  | 46 => ⟨S_, .i32⟩
  | 47 => ⟨S4x8, .i32⟩
  | 48 => ⟨S4x8, .i1⟩
  | 49 => ⟨S_, .i32⟩
  | 50 => ⟨S4x1, .i32⟩
  | 51 => ⟨S4x1, .i1⟩
  | 52 => ⟨S4x8, .i1⟩
  | 53 => ⟨S4x8, .i1⟩
  | 54 => ⟨S4x8, .i1⟩
  | 55 => ⟨S4x8, .i32⟩
  | 56 => ⟨S4x8, .i32⟩
  | 57 => ⟨S4x8, .i32⟩
  | 58 => ⟨S4x8x1, .i32⟩
  | 59 => ⟨S4x8, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S4x8, .i32⟩
  | 67 => ⟨S4x8, .i32⟩
  | 68 => ⟨S_, .i32⟩
  | 69 => ⟨S4x8, .i32⟩
  | 70 => ⟨S4x8, .i1⟩
  | 71 => ⟨S_, .i32⟩
  | 72 => ⟨S4x8, .i32⟩
  | 73 => ⟨S4x8, .i1⟩
  | 74 => ⟨S_, .i32⟩
  | 75 => ⟨S_, .i1⟩
  | 76 => ⟨S4x8, .i1⟩
  | 77 => ⟨S4x8, .i1⟩
  | 78 => ⟨S4x8, .i1⟩
  | 79 => ⟨S4x8, .i32⟩
  | 80 => ⟨S4x8, .i32⟩
  | 81 => ⟨S4x8, .i32⟩
  | 82 => ⟨S4, .i32⟩
  | 83 => ⟨S4x1, .i32⟩
  | 84 => ⟨S_, .i32⟩
  | 85 => ⟨S4x1, .i32⟩
  | 86 => ⟨S4x1, .i1⟩
  | 87 => ⟨S_, .i32⟩
  | 88 => ⟨S4x1, .i32⟩
  | 89 => ⟨S4x1, .i32⟩
  | 90 => ⟨S4x1, .i32⟩
  | 91 => ⟨S_, .i32⟩
  | 92 => ⟨S4x8, .i32⟩
  | 93 => ⟨S4x8, .i1⟩
  | 94 => ⟨S_, .i32⟩
  | 95 => ⟨S4x8, .i32⟩
  | 96 => ⟨S4x8, .i32⟩
  | 97 => ⟨S4x8, .i32⟩
  | 98 => ⟨S_, .i32⟩
  | 99 => ⟨S4x8, .i32⟩
  | 100 => ⟨S4x8, .i1⟩
  | 101 => ⟨S_, .i32⟩
  | 102 => ⟨S4x8, .i32⟩
  | 103 => ⟨S4x8, .i32⟩
  | 104 => ⟨S4x8, .i32⟩
  | 105 => ⟨S4x8, .i32⟩
  | 106 => ⟨S4x8x1, .i32⟩
  | 107 => ⟨S4x8x1, .i32⟩
  | 108 => ⟨S4x8x1, .i32⟩
  | 109 => ⟨S4x8x3, .i32⟩
  | 110 => ⟨S4x8x2, .f32⟩
  | 111 => ⟨S_, .f32⟩
  | 112 => ⟨S4x8, .f32⟩
  | 113 => ⟨S_, .f32⟩
  | 114 => ⟨S4x8, .f32⟩
  | 115 => ⟨S4x8, .f32⟩
  | 116 => ⟨S4x8x1, .f32⟩
  | 117 => ⟨S4x8x2, .f32⟩
  | 118 => ⟨S4x8x2, .f32⟩
  | 119 => ⟨S4x8x2, .f32⟩
  | 120 => ⟨S_, .f32⟩
  | 121 => ⟨S4x8, .f32⟩
  | 122 => ⟨S4x8x1, .f32⟩
  | 123 => ⟨S4x8x1, .f32⟩
  | 124 => ⟨S4x8x2, .f32⟩
  | 125 => ⟨S4x8x2, .f32⟩
  | 126 => ⟨S4x8x1, .f32⟩
  | 127 => ⟨S4x8, .f32⟩
  | _ => ⟨S4x512x256, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S4x8, .i32⟩
  | 6 => ⟨S4x1, .i32⟩
  | 7 => ⟨S_, .i32⟩
  | 8 => ⟨S4x1, .i32⟩
  | 9 => ⟨S4x1, .i32⟩
  | 10 => ⟨S4x8, .i32⟩
  | 11 => ⟨S4x8, .i32⟩
  | 12 => ⟨S_, .i32⟩
  | 13 => ⟨S4x8, .i32⟩
  | 14 => ⟨S4x8, .i32⟩
  | 15 => ⟨S1x512x1x1, .i32⟩
  | 16 => ⟨S4x1x1x8, .i32⟩
  | 17 => ⟨S4x512x1x8, .i32⟩
  | 18 => ⟨S4x512x1x8, .i32⟩
  | 19 => ⟨S4x512x1x8, .i1⟩
  | 20 => ⟨S4x512x8x1, .i32⟩
  | 21 => ⟨S4x1x1x8, .i32⟩
  | 22 => ⟨S4x512x8x8, .i32⟩
  | 23 => ⟨S4x512x8x8, .i32⟩
  | 24 => ⟨S4x512x8x8, .i1⟩
  | 25 => ⟨S4x512x8x8, .i1⟩
  | 26 => ⟨S4x512x8x8, .i1⟩
  | 27 => ⟨S_, .i1⟩
  | 28 => ⟨S4x512x8, .i1⟩
  | 29 => ⟨S4x512x8, .i1⟩
  | 30 => ⟨S4x512x8, .i1⟩
  | 31 => ⟨S_, .f32⟩
  | 32 => ⟨S4x512x8, .f32⟩
  | 33 => ⟨S_, .f32⟩
  | 34 => ⟨S4x512x8, .f32⟩
  | 35 => ⟨S4x512x8, .f32⟩
  | 36 => ⟨S4x512x8x1, .f32⟩
  | 37 => ⟨S4x512x8x2, .f32⟩
  | 38 => ⟨S4x512x8x2, .f32⟩
  | 39 => ⟨S4x512x8x2, .f32⟩
  | 40 => ⟨S_, .f32⟩
  | 41 => ⟨S4x512x8, .f32⟩
  | 42 => ⟨S4x512x8x1, .f32⟩
  | 43 => ⟨S4x512x8x1, .f32⟩
  | 44 => ⟨S4x512x8x2, .f32⟩
  | 45 => ⟨S4x512x8x2, .f32⟩
  | 46 => ⟨S4x512x8x1, .f32⟩
  | 47 => ⟨S4x512x8, .f32⟩
  | 48 => ⟨S4x512x8, .f32⟩
  | 49 => ⟨S4x512x8, .f32⟩
  | 50 => ⟨S4x512x8, .f32⟩
  | 51 => ⟨S_, .f32⟩
  | 52 => ⟨S_, .f32⟩
  | 53 => ⟨S4x512x8, .i32⟩
  | 54 => ⟨S_, .i32⟩
  | 55 => ⟨S_, .i32⟩
  | 56 => ⟨S_, .i32⟩
  | 57 => ⟨S_, .i32⟩
  | 58 => ⟨S_, .f32⟩
  | 59 => ⟨S_, .f32⟩
  | _ => ⟨S4x512x256, .f32⟩

abbrev hbmTy (i : Nat) : BufTy := match i / 128 with
  | 0 => hbmTy0_0 i
  | 1 => hbmTy0_1 i
  | 2 => hbmTy0_2 i
  | _ => ⟨S4x512x256, .f32⟩

abbrev bufTy : (tb : Table) → Fin (tcTables nBuf tb) → BufTy
  | .hbm, ⟨i, _⟩ => hbmTy i
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c : Ref sig .tc := ⟨.hbm, 49, rfl⟩
abbrev main_c_4 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v31 : Ref sig .tc := ⟨.hbm, 56, rfl⟩
abbrev main_c_5 : Ref sig .tc := ⟨.hbm, 57, rfl⟩
abbrev main_v32 : Ref sig .tc := ⟨.hbm, 58, rfl⟩
abbrev main_v33 : Ref sig .tc := ⟨.hbm, 59, rfl⟩
abbrev main_c_6 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call2_cst : Ref sig .tc := ⟨.hbm, 73, rfl⟩
abbrev main_call2_v0 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_7 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_8 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_9 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_10 : Ref sig .tc := ⟨.hbm, 124, rfl⟩
abbrev main_call3_v0 : Ref sig .tc := ⟨.hbm, 125, rfl⟩
abbrev main_call3_v1 : Ref sig .tc := ⟨.hbm, 126, rfl⟩
abbrev main_call3_v2 : Ref sig .tc := ⟨.hbm, 127, rfl⟩
abbrev main_v92 : Ref sig .tc := ⟨.hbm, 128, rfl⟩
abbrev main_v93 : Ref sig .tc := ⟨.hbm, 129, rfl⟩
abbrev main_c_11 : Ref sig .tc := ⟨.hbm, 130, rfl⟩
abbrev main_v94 : Ref sig .tc := ⟨.hbm, 131, rfl⟩
abbrev main_v95 : Ref sig .tc := ⟨.hbm, 132, rfl⟩
abbrev main_cst_12 : Ref sig .tc := ⟨.hbm, 133, rfl⟩
abbrev main_v96 : Ref sig .tc := ⟨.hbm, 134, rfl⟩
abbrev main_cst_13 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_14 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_15 : Ref sig .tc := ⟨.hbm, 147, rfl⟩
abbrev main_call4_v0 : Ref sig .tc := ⟨.hbm, 148, rfl⟩
abbrev main_call4_v1 : Ref sig .tc := ⟨.hbm, 149, rfl⟩
abbrev main_call4_v2 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_c_16 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_call5_c : Ref sig .tc := ⟨.hbm, 163, rfl⟩
abbrev main_call5_v0 : Ref sig .tc := ⟨.hbm, 164, rfl⟩
abbrev main_call5_v1 : Ref sig .tc := ⟨.hbm, 165, rfl⟩
abbrev main_call5_c_0 : Ref sig .tc := ⟨.hbm, 166, rfl⟩
abbrev main_call5_v2 : Ref sig .tc := ⟨.hbm, 167, rfl⟩
abbrev main_call5_v3 : Ref sig .tc := ⟨.hbm, 168, rfl⟩
abbrev main_call5_v4 : Ref sig .tc := ⟨.hbm, 169, rfl⟩
abbrev main_call5_v5 : Ref sig .tc := ⟨.hbm, 170, rfl⟩
abbrev main_call5_c_1 : Ref sig .tc := ⟨.hbm, 171, rfl⟩
abbrev main_call5_v6 : Ref sig .tc := ⟨.hbm, 172, rfl⟩
abbrev main_call5_v7 : Ref sig .tc := ⟨.hbm, 173, rfl⟩
abbrev main_call5_c_2 : Ref sig .tc := ⟨.hbm, 174, rfl⟩
abbrev main_call5_v8 : Ref sig .tc := ⟨.hbm, 175, rfl⟩
abbrev main_call5_v9 : Ref sig .tc := ⟨.hbm, 176, rfl⟩
abbrev main_call5_c_3 : Ref sig .tc := ⟨.hbm, 177, rfl⟩
abbrev main_call5_v10 : Ref sig .tc := ⟨.hbm, 178, rfl⟩
abbrev main_call5_v11 : Ref sig .tc := ⟨.hbm, 179, rfl⟩
abbrev main_call5_v12 : Ref sig .tc := ⟨.hbm, 180, rfl⟩
abbrev main_call5_v13 : Ref sig .tc := ⟨.hbm, 181, rfl⟩
abbrev main_call5_v14 : Ref sig .tc := ⟨.hbm, 182, rfl⟩
abbrev main_call5_v15 : Ref sig .tc := ⟨.hbm, 183, rfl⟩
abbrev main_call5_v16 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_c_17 : Ref sig .tc := ⟨.hbm, 188, rfl⟩
abbrev main_call6_v0 : Ref sig .tc := ⟨.hbm, 189, rfl⟩
abbrev main_call6_c : Ref sig .tc := ⟨.hbm, 190, rfl⟩
abbrev main_call6_v1 : Ref sig .tc := ⟨.hbm, 191, rfl⟩
abbrev main_call6_c_0 : Ref sig .tc := ⟨.hbm, 192, rfl⟩
abbrev main_call6_v2 : Ref sig .tc := ⟨.hbm, 193, rfl⟩
abbrev main_call6_v3 : Ref sig .tc := ⟨.hbm, 194, rfl⟩
abbrev main_call6_v4 : Ref sig .tc := ⟨.hbm, 195, rfl⟩
abbrev main_call6_c_1 : Ref sig .tc := ⟨.hbm, 196, rfl⟩
abbrev main_call6_v5 : Ref sig .tc := ⟨.hbm, 197, rfl⟩
abbrev main_call6_v6 : Ref sig .tc := ⟨.hbm, 198, rfl⟩
abbrev main_call6_c_2 : Ref sig .tc := ⟨.hbm, 199, rfl⟩
abbrev main_call6_v7 : Ref sig .tc := ⟨.hbm, 200, rfl⟩
abbrev main_call6_v8 : Ref sig .tc := ⟨.hbm, 201, rfl⟩
abbrev main_call6_c_3 : Ref sig .tc := ⟨.hbm, 202, rfl⟩
abbrev main_call6_v9 : Ref sig .tc := ⟨.hbm, 203, rfl⟩
abbrev main_call6_v10 : Ref sig .tc := ⟨.hbm, 204, rfl⟩
abbrev main_call6_v11 : Ref sig .tc := ⟨.hbm, 205, rfl⟩
abbrev main_call6_v12 : Ref sig .tc := ⟨.hbm, 206, rfl⟩
abbrev main_call6_v13 : Ref sig .tc := ⟨.hbm, 207, rfl⟩
abbrev main_call6_v14 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_c_18 : Ref sig .tc := ⟨.hbm, 212, rfl⟩
abbrev main_v124 : Ref sig .tc := ⟨.hbm, 213, rfl⟩
abbrev main_v125 : Ref sig .tc := ⟨.hbm, 214, rfl⟩
abbrev main_c_19 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_c_20 : Ref sig .tc := ⟨.hbm, 219, rfl⟩
abbrev main_v129 : Ref sig .tc := ⟨.hbm, 220, rfl⟩
abbrev main_v130 : Ref sig .tc := ⟨.hbm, 221, rfl⟩
abbrev main_c_21 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_c_22 : Ref sig .tc := ⟨.hbm, 226, rfl⟩
abbrev main_v134 : Ref sig .tc := ⟨.hbm, 227, rfl⟩
abbrev main_v135 : Ref sig .tc := ⟨.hbm, 228, rfl⟩
abbrev main_c_23 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_v142 : Ref sig .tc := ⟨.hbm, 236, rfl⟩
abbrev main_v143 : Ref sig .tc := ⟨.hbm, 237, rfl⟩
abbrev main_v144 : Ref sig .tc := ⟨.hbm, 238, rfl⟩
abbrev main_call7_cst : Ref sig .tc := ⟨.hbm, 239, rfl⟩
abbrev main_call7_v0 : Ref sig .tc := ⟨.hbm, 240, rfl⟩
abbrev main_call7_cst_0 : Ref sig .tc := ⟨.hbm, 241, rfl⟩
abbrev main_call7_v1 : Ref sig .tc := ⟨.hbm, 242, rfl⟩
abbrev main_call7_v2 : Ref sig .tc := ⟨.hbm, 243, rfl⟩
abbrev main_call7_v3 : Ref sig .tc := ⟨.hbm, 244, rfl⟩
abbrev main_call7_v4 : Ref sig .tc := ⟨.hbm, 245, rfl⟩
abbrev main_call7_v5 : Ref sig .tc := ⟨.hbm, 246, rfl⟩
abbrev main_call7_v6 : Ref sig .tc := ⟨.hbm, 247, rfl⟩
abbrev main_call7_cst_1 : Ref sig .tc := ⟨.hbm, 248, rfl⟩
abbrev main_call7_v7 : Ref sig .tc := ⟨.hbm, 249, rfl⟩
abbrev main_call7_v8 : Ref sig .tc := ⟨.hbm, 250, rfl⟩
abbrev main_call7_v9 : Ref sig .tc := ⟨.hbm, 251, rfl⟩
abbrev main_call7_v10 : Ref sig .tc := ⟨.hbm, 252, rfl⟩
abbrev main_v145 : Ref sig .tc := ⟨.hbm, 253, rfl⟩
abbrev main_v146 : Ref sig .tc := ⟨.hbm, 254, rfl⟩
abbrev main_v147 : Ref sig .tc := ⟨.hbm, 255, rfl⟩
abbrev main_cst_24 : Ref sig .tc := ⟨.hbm, 256, rfl⟩
abbrev main_v148 : Ref sig .tc := ⟨.hbm, 257, rfl⟩
abbrev main_cst_25 : Ref sig .tc := ⟨.hbm, 258, rfl⟩
abbrev main_v149 : Ref sig .tc := ⟨.hbm, 259, rfl⟩
abbrev main_v150 : Ref sig .tc := ⟨.hbm, 260, rfl⟩
abbrev main_v151 : Ref sig .tc := ⟨.hbm, 261, rfl⟩
abbrev main_v152 : Ref sig .tc := ⟨.hbm, 262, rfl⟩
abbrev main_c_26 : Ref sig .tc := ⟨.hbm, 263, rfl⟩
abbrev main_v153 : Ref sig .tc := ⟨.hbm, 264, rfl⟩
abbrev main_v154 : Ref sig .tc := ⟨.hbm, 265, rfl⟩
abbrev main_v155 : Ref sig .tc := ⟨.hbm, 266, rfl⟩
abbrev main_v156 : Ref sig .tc := ⟨.hbm, 267, rfl⟩
abbrev main_c_27 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_v160 : Ref sig .tc := ⟨.hbm, 272, rfl⟩
abbrev main_v161 : Ref sig .tc := ⟨.hbm, 273, rfl⟩
abbrev main_v162 : Ref sig .tc := ⟨.hbm, 274, rfl⟩
abbrev main_v163 : Ref sig .tc := ⟨.hbm, 275, rfl⟩
abbrev main_v164 : Ref sig .tc := ⟨.hbm, 276, rfl⟩
abbrev main_v165 : Ref sig .tc := ⟨.hbm, 277, rfl⟩
abbrev main_v166 : Ref sig .tc := ⟨.hbm, 278, rfl⟩
abbrev main_v167 : Ref sig .tc := ⟨.hbm, 279, rfl⟩
abbrev main_v168 : Ref sig .tc := ⟨.hbm, 280, rfl⟩
abbrev main_v169 : Ref sig .tc := ⟨.hbm, 281, rfl⟩
abbrev main_v170 : Ref sig .tc := ⟨.hbm, 282, rfl⟩
abbrev main_c_28 : Ref sig .tc := ⟨.hbm, 283, rfl⟩
abbrev main_v171 : Ref sig .tc := ⟨.hbm, 284, rfl⟩
abbrev main_v172 : Ref sig .tc := ⟨.hbm, 285, rfl⟩
abbrev main_v173 : Ref sig .tc := ⟨.hbm, 286, rfl⟩
abbrev main_call8_cst : Ref sig .tc := ⟨.hbm, 287, rfl⟩
abbrev main_call8_v0 : Ref sig .tc := ⟨.hbm, 288, rfl⟩
abbrev main_call8_cst_0 : Ref sig .tc := ⟨.hbm, 289, rfl⟩
abbrev main_call8_v1 : Ref sig .tc := ⟨.hbm, 290, rfl⟩
abbrev main_call8_v2 : Ref sig .tc := ⟨.hbm, 291, rfl⟩
abbrev main_call8_v3 : Ref sig .tc := ⟨.hbm, 292, rfl⟩
abbrev main_call8_v4 : Ref sig .tc := ⟨.hbm, 293, rfl⟩
abbrev main_call8_v5 : Ref sig .tc := ⟨.hbm, 294, rfl⟩
abbrev main_call8_v6 : Ref sig .tc := ⟨.hbm, 295, rfl⟩
abbrev main_call8_cst_1 : Ref sig .tc := ⟨.hbm, 296, rfl⟩
abbrev main_call8_v7 : Ref sig .tc := ⟨.hbm, 297, rfl⟩
abbrev main_call8_v8 : Ref sig .tc := ⟨.hbm, 298, rfl⟩
abbrev main_call8_v9 : Ref sig .tc := ⟨.hbm, 299, rfl⟩
abbrev main_call8_v10 : Ref sig .tc := ⟨.hbm, 300, rfl⟩
abbrev main_v174 : Ref sig .tc := ⟨.hbm, 301, rfl⟩
abbrev main_v175 : Ref sig .tc := ⟨.hbm, 302, rfl⟩
abbrev main_v176 : Ref sig .tc := ⟨.hbm, 303, rfl⟩
abbrev main_v177 : Ref sig .tc := ⟨.hbm, 304, rfl⟩
abbrev main_v178 : Ref sig .tc := ⟨.hbm, 305, rfl⟩
abbrev main_v179 : Ref sig .tc := ⟨.hbm, 306, rfl⟩
abbrev main_cst_29 : Ref sig .tc := ⟨.hbm, 307, rfl⟩
abbrev main_v180 : Ref sig .tc := ⟨.hbm, 308, rfl⟩
abbrev main_v181 : Ref sig .tc := ⟨.hbm, 309, rfl⟩
abbrev main_c_30 : Ref sig .tc := ⟨.hbm, 310, rfl⟩
abbrev main_v182 : Ref sig .tc := ⟨.hbm, 311, rfl⟩
abbrev main_c_31 : Ref sig .tc := ⟨.hbm, 312, rfl⟩
abbrev main_v183 : Ref sig .tc := ⟨.hbm, 313, rfl⟩
abbrev main_v184 : Ref sig .tc := ⟨.hbm, 314, rfl⟩
abbrev main_v185 : Ref sig .tc := ⟨.hbm, 315, rfl⟩

abbrev nD : Nat := 1
abbrev τ : Topo := Topo.v7x

variable {F : FTy → Type} [FloatOps F]
-- ==== Proof.Batch.lean ====
/-
  What the kernel's stores hold, written once for a batch entry: the scores of its spans as functions of four rows
  of numbers (`e`, `y`, `u`: the query logits, a class's projection, the hidden layer's output) and of its words (its
  length, its golden spans), and the two losses' running sums over the four entries. `kernelRun_tiles`, `_gold`,
  `_neg`: the run leaves these.
-/
module

public import proofs.«01_k».proof.Proof.Gen.KernelIdeal.Frame

@[expose] public section

set_option maxRecDepth 16384

noncomputable section

namespace Cert.KernelIdeal.Batch

open Idealize.ShloMosaic Idealize.ShloMosaic.TcCoe Idealize.ShloMosaic.Tactic
open Cert.KernelIdeal.Gen

variable {F : FTy → Type} [FloatOps F]

/-! ## Positions and words -/

/-- The width of a span less one, at each (width, start). -/
def w8 : IVec S8x512 32 := iota .tc S8x512 32 [0] iota_S8x512_d0_w32
/-- The start of a span, at each (width, start). -/
def p8 : IVec S8x512 32 := iota .tc S8x512 32 [1] iota_S8x512_d1_w32

/-- The remainder of `a` by `n` with `n`'s sign. -/
def floorMod (a n : BitVec 32) : BitVec 32 :=
  Scalar.select (Scalar.andi (Scalar.xori (Scalar.cmpi .slt (Scalar.remsi a n) 0#32) (Scalar.cmpi .slt n 0#32))
      (Scalar.cmpi .ne (Scalar.remsi a n) 0#32))
    (Scalar.addi (Scalar.remsi a n) n) (Scalar.remsi a n)

/-- The remainder by `n`, by one where `n` is zero. -/
def floorMod₁ (a n : BitVec 32) : BitVec 32 := floorMod a (Scalar.select (Scalar.cmpi .eq n 0#32) 1#32 n)

/-! ## One batch entry's scores -/

/-- The query logits, those past the length at the mask's number. -/
def masked (e : FVec F S1x512 .f32) (L : BitVec 32) : FVec F S1x512 .f32 :=
  select (cmpi .slt (iota .tc S1x512 32 [1] iota_S1x512_d1_w32) (broadcast S1x512 L)) e
    (broadcast S1x512 (Scalar.ofBits .f32 0xCE6E6B28#32))

/-- The exponentials of a row less its largest. -/
def expRow (x : FVec F S1x512 .f32) : FVec F S1x512 .f32 :=
  exp (subf x (broadcastTo S1x512 (shapeCast S1x1 (multiReduction .maximumf [1] S1 x 0xFF800000#32 reduces_S1x512_S1 (.inl rfl) rfl)
    shapeCasts_S1_S1x1) broadcasts_S1x1_S1x512))

/-- The query attention of each token. -/
def att (e : FVec F S1x512 .f32) (L : BitVec 32) : FVec F S1x512 .f32 :=
  divf (expRow (masked e L)) (broadcastTo S1x512 (shapeCast S1x1 (multiReduction .add [1] S1 (expRow (masked e L)) 0x00000000#32
    reduces_S1x512_S1 (.inl rfl) rfl) shapeCasts_S1_S1x1) broadcasts_S1x1_S1x512)

/-- A row's last number. -/
def last (x : FVec F S1x512 .f32) : FVec F S1x1 .f32 := extractStridedSlice S1x1 ![0, 511] x slices_S1x512_o0_511_S1x1

/-- A row moved left by one, its last number repeated. -/
def shift₁ (x : FVec F S1x512 .f32) : FVec F S1x512 .f32 :=
  concatenate S1x512 1 [⟨S1x511, extractStridedSlice S1x511 ![0, 1] x slices_S1x512_o0_1_S1x511⟩, ⟨S1x1, last x⟩]
    concatenates_S1x511_S1x1_S1x512_d1

theorem slices_tail (k : ℕ) (hk : k ≤ 7) : S1x512.Slices ![0, k] ⟨2, ![1, 512 - k]⟩ := by
  refine ⟨rfl, fun a => ?_⟩
  match a with
  | ⟨0, _⟩ => show 0 + 1 ≤ 1; omega
  | ⟨1, _⟩ => show k + (512 - k) ≤ 512; omega

theorem broadcasts_tail (k : ℕ) : S1x1.Broadcasts ⟨2, ![1, k]⟩ := by
  refine ⟨le_refl _, fun a => .inl ?_⟩
  match a with
  | ⟨0, _⟩ => rfl
  | ⟨1, _⟩ => rfl

theorem concatenates_tail (k : ℕ) (hk : k ≤ 7) :
    Shape.Concatenates [(⟨2, ![1, 512 - k]⟩ : Shape), ⟨2, ![1, k]⟩] S1x512 1 :=
  (by decide : ∀ k : Fin 8, Shape.Concatenates [(⟨2, ![1, 512 - k.val]⟩ : Shape), ⟨2, ![1, k.val]⟩] S1x512 1) ⟨k, by omega⟩

/-- A row moved left by `k`, its last number repeated. -/
def shift (x : FVec F S1x512 .f32) (k : ℕ) (hk : k ≤ 7) : FVec F S1x512 .f32 :=
  concatenate S1x512 1
    [⟨⟨2, ![1, 512 - k]⟩, extractStridedSlice ⟨2, ![1, 512 - k]⟩ ![0, k] x (slices_tail k hk)⟩,
     ⟨⟨2, ![1, k]⟩, broadcastTo ⟨2, ![1, k]⟩ (shapeCast S1x1 (last x) shapeCasts_S1x1_S1x1) (broadcasts_tail k)⟩]
    (concatenates_tail k hk)

/-- The eight moves of a row, one to a row. -/
def windows (x : FVec F S1x512 .f32) : FVec F S8x512 .f32 :=
  concatenate S8x512 0
    [⟨S1x512, x⟩, ⟨S1x512, shift₁ x⟩, ⟨S1x512, shift x 2 (by decide)⟩, ⟨S1x512, shift x 3 (by decide)⟩,
     ⟨S1x512, shift x 4 (by decide)⟩, ⟨S1x512, shift x 5 (by decide)⟩, ⟨S1x512, shift x 6 (by decide)⟩,
     ⟨S1x512, shift x 7 (by decide)⟩]
    concatenates_S1x512_S1x512_S1x512_S1x512_S1x512_S1x512_S1x512_S1x512_S8x512_d0

/-- The exponentials of a window's terms less the largest of the window. -/
def expWin (v : FVec F S8x512 .f32) : FVec F S8x512 .f32 :=
  exp (subf v (broadcastTo S8x512 (shapeCast S1x512 (multiReduction .maximumf [0] S512 v 0xFF800000#32 reduces_S8x512_S512 (.inl rfl) rfl)
    shapeCasts_S512_S1x512) broadcasts_S1x512_S8x512))

theorem slices_row (j : ℕ) : S8x512.Slices ![j % 8, 0] S1x512 := by
  refine ⟨rfl, fun a => ?_⟩
  match a with
  | ⟨0, _⟩ => show j % 8 + 1 ≤ 8; omega
  | ⟨1, _⟩ => show 0 + 512 ≤ 512; omega

/-- Row `j`. -/
def row (x : FVec F S8x512 .f32) (j : ℕ) : FVec F S1x512 .f32 :=
  extractStridedSlice S1x512 ![j % 8, 0] x (slices_row j)

/-- The sum of rows `0 … j`. -/
def cum (x : FVec F S8x512 .f32) : ℕ → FVec F S1x512 .f32
  | 0 => row x 0
  | j + 1 => addf (cum x j) (row x (j + 1))

/-- A row under each of eight. -/
def down (x : FVec F S1x512 .f32) : FVec F S8x512 .f32 :=
  broadcastTo S8x512 (shapeCast S1x512 x shapeCasts_S1x512_S1x512) broadcasts_S1x512_S8x512

/-- At each place the sum of rows `0 … i` for the number `i < n` that `iw` has there, zero where it has none. -/
def pick (iw : IVec S8x512 32) (x : FVec F S8x512 .f32) : ℕ → FVec F S8x512 .f32
  | 0 => broadcast S8x512 (Scalar.ofBits .f32 0x00000000#32)
  | j + 1 => select (cmpi .eq iw (broadcast S8x512 (BitVec.ofNat 32 j))) (down (cum x j)) (pick iw x j)

/-- How many tokens the sequence has from each start on. -/
def left (L : BitVec 32) : IVec S8x512 32 := subi (broadcast S8x512 L) p8

/-- The last token of each span, counted from its start. -/
def lastTok (L : BitVec 32) : IVec S8x512 32 := minsi w8 (subi (left L) (broadcast S8x512 1#32))

/-- The mean of each window. -/
def mean (z : FVec F S8x512 .f32) : FVec F S1x512 .f32 :=
  mulf (shapeCast S1x512 (multiReduction .add [0] S512 z 0x00000000#32 reduces_S8x512_S512 (.inl rfl) rfl) shapeCasts_S512_S1x512)
    (broadcast S1x512 (Scalar.ofBits .f32 0x3E000000#32))

/-- A class's score of each span, from the windows' terms `v` and the class's numbers `z`. -/
def pool (L : BitVec 32) (v z : FVec F S8x512 .f32) (bs : F .f32) : FVec F S8x512 .f32 :=
  addf (select (cmpi .sge (left L) (broadcast S8x512 1#32))
      (divf (pick (lastTok L) (mulf (expWin v) z) 8) (pick (lastTok L) (expWin v) 8)) (down (mean z)))
    (broadcast S8x512 bs)

/-- A class's score of each span, from the rows. -/
def chan (e u y : FVec F S1x512 .f32) (L : BitVec 32) (b2 bs : F .f32) : FVec F S8x512 .f32 :=
  pool L (windows (addf (mulf (att e L) u) (broadcast S1x512 b2))) (windows (mulf (att e L) y)) bs

/-! ## The tile of scores -/

/-- The place the class-major row `r` goes to, as a matrix of zeros and ones. -/
def perm : FVec F S16x16 .f32 := k0_pay11 (iota .tc S16x16 32 [0] iota_S16x16_d0_w32) (iota .tc S16x16 32 [1] iota_S16x16_d1_w32)
  8#32 k0_pay8 k0_pay9 k0_pay10

/-- The two classes' scores of an entry as they are stored: a start to a row, width and class along it. -/
def tile (s₀ s₁ : FVec F S8x512 .f32) : FVec F S1x512x16 .f32 :=
  shapeCast S1x512x16 (matmul dot_S16x512_S16x16_S512x16_0_0_1_1_n_n (some .fp32)
    (concatenate S16x512 0 [⟨S8x512, s₀⟩, ⟨S8x512, s₁⟩] concatenates_S8x512_S8x512_S16x512_d0) perm
    (constant S512x16 .f32 0x00000000#32)) shapeCasts_S512x16_S1x512x16

/-! ## The losses -/

/-- The larger of the two scores plus the logarithm of the sum of the exponentials less it. -/
def lse (s₀ s₁ : FVec F S8x512 .f32) : FVec F S8x512 .f32 :=
  addf (maximumf s₀ s₁) (log (addf (exp (subf s₀ (maximumf s₀ s₁))) (exp (subf s₁ (maximumf s₀ s₁)))))

/-- The end of each span. -/
def spanEnd (L : BitVec 32) : IVec S8x512 32 :=
  addi (minsi (addi p8 w8) (broadcast S8x512 (Scalar.subi L 1#32))) (broadcast S8x512 1#32)

/-- Which spans there are. -/
def valid (L : BitVec 32) : IVec S8x512 1 :=
  andi (cmpi .slt p8 (broadcast S8x512 L))
    (ori (cmpi .eq w8 (broadcast S8x512 0#32)) (cmpi .sle (addi p8 w8) (broadcast S8x512 (Scalar.subi L 1#32))))

/-- A golden span's start and its width less one, from its two words. -/
def goldStart (L : BitVec 32) (g : BitVec 32) : BitVec 32 := floorMod₁ g (Scalar.maxsi L 1#32)
def goldWidth (g : BitVec 32) : BitVec 32 := floorMod₁ g 8#32

/-- The spans that start and end where the golden span (`s`, `w`) does. -/
def goldHit (L s w : BitVec 32) : IVec S8x512 1 :=
  andi (cmpi .eq p8 (broadcast S8x512 s))
    (cmpi .eq (spanEnd L) (broadcast S8x512 (Scalar.addi (Scalar.minsi (Scalar.addi s w) (Scalar.subi L 1#32)) 1#32)))

/-- The spans that are one of the first `n` golden spans. -/
def isGold (L : BitVec 32) (s w : ℕ → BitVec 32) : ℕ → IVec S8x512 1
  | 0 => broadcast S8x512 0#1
  | g + 1 => ori (isGold L s w g) (goldHit L (s g) (w g))

/-- The sum of all the numbers of a tile. -/
def total (x : FVec F S8x512 .f32) : FVec F S1x1 .f32 :=
  broadcast S1x1 (extractAt ![0, 0, 0] (shapeCast S1x1x1 (multiReduction .add [1, 2] S1 (shapeCast S1x8x512 x shapeCasts_S8x512_S1x8x512)
    0x00000000#32 reduces_S1x8x512_S1 (.inl rfl) rfl) shapeCasts_S1_S1x1x1) inpos_S1x1x1_p0_0_0)

/-- One at a true place, zero at a false one. -/
def indicator (x : IVec S8x512 1) : FVec F S8x512 .f32 := sitofp .f32 (extui 32 x natLt_1_32)

/-- The golden sum after the first `n` golden spans of an entry. -/
def goldSum (acc : FVec F S1x1 .f32) (s₀ s₁ : FVec F S8x512 .f32) (s w : ℕ → BitVec 32) : ℕ → FVec F S1x1 .f32
  | 0 => acc
  | g + 1 => addf (goldSum acc s₀ s₁ s w g)
      (total (mulf (indicator (andi (cmpi .eq p8 (broadcast S8x512 (s g))) (cmpi .eq w8 (broadcast S8x512 (w g)))))
        (subf s₁ (lse s₀ s₁))))

/-- One at the spans that are there and not golden. -/
def negMask (L : BitVec 32) (s w : ℕ → BitVec 32) : FVec F S8x512 .f32 :=
  indicator (andi (valid L) (xori (isGold L s w 8) (constantI S8x512 1 1#1)))

/-! ## The four entries -/

section Whole

variable (X0 : Vec F S4x512x256 .f32) (X1 : Vec F S4 .i32) (X2 : Vec F S4x8x2 .i32) (X3 X4 : Vec F S256x1 .f32)
  (X5 : Vec F S256x64 .f32) (X6 : Vec F S64x1 .f32) (X7 : Vec F S1 .f32) (X8 : Vec F S256x2 .f32) (X9 : Vec F S2 .f32)

/-- The three projections of every token, in one product: the query's, the two classes', the hidden layer's. -/
def proj : FVec F S67x2048 .f32 :=
  matmul dot_S256x67_S2048x256_S67x2048_0_1_1_0_n_n (some .fp32)
    (concatenate S256x67 1
      [⟨S256x1, shapeCast S256x1 (View.ld X3 (Rect.unit (s := S256x1) ![0, 0] S256x1.size inb_S256x1_S256x1_0_0)) shapeCasts_S256x1_S256x1⟩,
       ⟨S256x2, View.ld X8 (Rect.unit (s := S256x2) ![0, 0] S256x2.size inb_S256x2_S256x2_0_0)⟩,
       ⟨S256x64, mulf (broadcastTo S256x64 (shapeCast S256x1 (View.ld X4 (Rect.unit (s := S256x1) ![0, 0] S256x1.size inb_S256x1_S256x1_0_0))
          shapeCasts_S256x1_S256x1) broadcasts_S256x1_S256x64)
          (View.ld X5 (Rect.unit (s := S256x64) ![0, 0] S256x64.size inb_S256x64_S256x64_0_0))⟩]
      concatenates_S256x1_S256x2_S256x64_S256x67_d1)
    (shapeCast S2048x256 (View.ld X0 (Rect.unit (s := S4x512x256) ![0, 0, 0] S4x512x256.size inb_S4x512x256_S4x512x256_0_0_0))
      shapeCasts_S4x512x256_S2048x256)
    (constant S67x2048 .f32 0x00000000#32)

/-- The query logits of every token. -/
def eAll : FVec F S1x2048 .f32 := extractStridedSlice S1x2048 ![0, 0] (proj X0 X3 X4 X5 X8) slices_S67x2048_o0_0_S1x2048
/-- The first class's projection of every token. -/
def y0All : FVec F S1x2048 .f32 := extractStridedSlice S1x2048 ![1, 0] (proj X0 X3 X4 X5 X8) slices_S67x2048_o1_0_S1x2048
/-- The second class's projection of every token. -/
def y1All : FVec F S1x2048 .f32 := extractStridedSlice S1x2048 ![2, 0] (proj X0 X3 X4 X5 X8) slices_S67x2048_o2_0_S1x2048
/-- The hidden layer's output of every token. -/
def uAll : FVec F S1x2048 .f32 :=
  matmul dot_S64x1_S64x2048_S1x2048_0_0_1_1_n_n (some .fp32)
    (View.ld X6 (Rect.unit (s := S64x1) ![0, 0] S64x1.size inb_S64x1_S64x1_0_0))
    (maximumf (extractStridedSlice S64x2048 ![3, 0] (proj X0 X3 X4 X5 X8) slices_S67x2048_o3_0_S64x2048)
      (broadcast S64x2048 (Scalar.ofBits .f32 0x00000000#32)))
    (constant S1x2048 .f32 0x00000000#32)

theorem slices_entry (b : ℕ) : S1x2048.Slices ![0, 512 * (b % 4)] S1x512 := by
  refine ⟨rfl, fun a => ?_⟩
  match a with
  | ⟨0, _⟩ => show 0 + 1 ≤ 1; omega
  | ⟨1, _⟩ => show 512 * (b % 4) + 512 ≤ 2048; omega

/-- Entry `b`'s part of a row over all tokens. -/
def entry (x : FVec F S1x2048 .f32) (b : ℕ) : FVec F S1x512 .f32 :=
  extractStridedSlice S1x512 ![0, 512 * (b % 4)] x (slices_entry b)

/-- Entry `b`'s length. -/
def len (b : ℕ) : BitVec 32 :=
  View.ld X1 (Rect.unit (s := S4) ![b % 4] S1.size (by intro a; match a with | ⟨0, _⟩ => show b % 4 + 1 ≤ 4; omega))
    (Shape.Idx.first (numel1_S1.symm ▸ Nat.one_pos))

/-- Word `i` of golden span `g` of entry `b`. -/
def golden (b g i : ℕ) : BitVec 32 :=
  View.ld X2 (Rect.unit (s := S4x8x2) ![b % 4, g % 8, i % 2] S1x1x1.size (by
      intro a
      match a with
      | ⟨0, _⟩ => show b % 4 + 1 ≤ 4; omega
      | ⟨1, _⟩ => show g % 8 + 1 ≤ 8; omega
      | ⟨2, _⟩ => show i % 2 + 1 ≤ 2; omega))
    (Shape.Idx.first (numel1_S1x1x1.symm ▸ Nat.one_pos))

/-- The bias of the hidden layer's output. -/
def b2w : F .f32 := View.ld X7 (Rect.unit (s := S1) ![0] S1.size inb_S1_S1_0) (Shape.Idx.first (numel1_S1.symm ▸ Nat.one_pos))
/-- The bias of each class. -/
def bs0w : F .f32 := View.ld X9 (Rect.unit (s := S2) ![0] S1.size inb_S2_S1_0) (Shape.Idx.first (numel1_S1.symm ▸ Nat.one_pos))
def bs1w : F .f32 := View.ld X9 (Rect.unit (s := S2) ![1] S1.size inb_S2_S1_1) (Shape.Idx.first (numel1_S1.symm ▸ Nat.one_pos))

/-- Entry `b`'s scores of the first class, -/
def s0 (b : ℕ) : FVec F S8x512 .f32 :=
  chan (entry (eAll X0 X3 X4 X5 X8) b) (entry (uAll X0 X3 X4 X5 X6 X8) b) (entry (y0All X0 X3 X4 X5 X8) b) (len X1 b) (b2w X7) (bs0w X9)
/-- and of the second. -/
def s1 (b : ℕ) : FVec F S8x512 .f32 :=
  chan (entry (eAll X0 X3 X4 X5 X8) b) (entry (uAll X0 X3 X4 X5 X6 X8) b) (entry (y1All X0 X3 X4 X5 X8) b) (len X1 b) (b2w X7) (bs1w X9)

/-- The starts and the widths of entry `b`'s golden spans. -/
def starts (b g : ℕ) : BitVec 32 := goldStart (len X1 b) (golden X2 b g 0)
def widths (b g : ℕ) : BitVec 32 := goldWidth (golden X2 b g 1)

/-- The golden sum after the first `n` entries. -/
def goldAll : ℕ → FVec F S1x1 .f32
  | 0 => broadcast S1x1 (Scalar.ofBits .f32 0x00000000#32)
  | b + 1 => goldSum (goldAll b) (s0 X0 X1 X3 X4 X5 X6 X7 X8 X9 b) (s1 X0 X1 X3 X4 X5 X6 X7 X8 X9 b) (starts X1 X2 b) (widths X2 b) 8

/-- The sum of the negative spans' losses after the first `n` entries, -/
def negAll : ℕ → FVec F S1x1 .f32
  | 0 => broadcast S1x1 (Scalar.ofBits .f32 0x00000000#32)
  | b + 1 => addf (negAll b) (total (mulf (negMask (len X1 b) (starts X1 X2 b) (widths X2 b))
      (subf (lse (s0 X0 X1 X3 X4 X5 X6 X7 X8 X9 b) (s1 X0 X1 X3 X4 X5 X6 X7 X8 X9 b)) (s0 X0 X1 X3 X4 X5 X6 X7 X8 X9 b))))

/-- and their number. -/
def cntAll : ℕ → FVec F S1x1 .f32
  | 0 => broadcast S1x1 (Scalar.ofBits .f32 0x00000000#32)
  | b + 1 => addf (cntAll b) (total (negMask (len X1 b) (starts X1 X2 b) (widths X2 b)))

/-- The golden loss as stored. -/
def goldOut : FVec F S1x1 .f32 :=
  mulf (subf (broadcast S1x1 (Scalar.ofBits .f32 0x00000000#32)) (goldAll X0 X1 X2 X3 X4 X5 X6 X7 X8 X9 4))
    (broadcast S1x1 (Scalar.ofBits .f32 0x3D000000#32))

/-- The negative loss as stored. -/
def negOut : FVec F S1x1 .f32 :=
  divf (negAll X0 X1 X2 X3 X4 X5 X6 X7 X8 X9 4)
    (maximumf (cntAll (F := F) X1 X2 4) (broadcast S1x1 (Scalar.ofBits .f32 0x3F800000#32)))

/-- Entry `b`'s tile as stored. -/
def tileAt (b : ℕ) : FVec F S1x512x16 .f32 :=
  tile (s0 X0 X1 X3 X4 X5 X6 X7 X8 X9 b) (s1 X0 X1 X3 X4 X5 X6 X7 X8 X9 b)

/-- The four stores of scores, the last first. -/
def tiles : List (View.Piece (Elt F) S4x512x16 .f32) :=
  [⟨Rect.unit (s := S4x512x16) ![3, 0, 0] S1x512x16.size inb_S4x512x16_S1x512x16_3_0_0, tileAt X0 X1 X3 X4 X5 X6 X7 X8 X9 3⟩,
   ⟨Rect.unit (s := S4x512x16) ![2, 0, 0] S1x512x16.size inb_S4x512x16_S1x512x16_2_0_0, tileAt X0 X1 X3 X4 X5 X6 X7 X8 X9 2⟩,
   ⟨Rect.unit (s := S4x512x16) ![1, 0, 0] S1x512x16.size inb_S4x512x16_S1x512x16_1_0_0, tileAt X0 X1 X3 X4 X5 X6 X7 X8 X9 1⟩,
   ⟨Rect.unit (s := S4x512x16) ![0, 0, 0] S1x512x16.size inb_S4x512x16_S1x512x16_0_0_0, tileAt X0 X1 X3 X4 X5 X6 X7 X8 X9 0⟩]

end Whole

end Cert.KernelIdeal.Batch

end
-- ==== Proof.Stores.lean ====
/-
  The run's stores are the vocabulary's (Batch.lean): the four tiles of scores and the two losses, as functions of the
  contents of the kernel's arguments.
-/
module

public import proofs.«01_k».proof.Proof.Batch

@[expose] public section

set_option maxRecDepth 65536

noncomputable section

namespace Cert.KernelIdeal.Batch

open Idealize.ShloMosaic Idealize.ShloMosaic.TcCoe Idealize.ShloMosaic.Tactic
open Cert.KernelIdeal.Gen

variable {F : FTy → Type} [FloatOps F]
variable (c : Dev nD) (t : Fin cfg0.N)
variable (x0 : Vec F S4x512x256 .f32) (x1 : Vec F S4 .i32) (x2 : Vec F S4x8x2 .i32) (x3 x4 : Vec F S256x1 .f32)
  (x5 : Vec F S256x64 .f32) (x6 : Vec F S64x1 .f32) (x7 : Vec F S1 .f32) (x8 : Vec F S256x2 .f32) (x9 : Vec F S2 .f32)

/-- The four stores of scores, over the contents read back. -/
theorem kernelRun_tiles_read :
    (kernelRun0_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      x0 x1 x2 x3 x4 x5 x6 x7 x8 x9).1 = tiles
      ((ms0_0 t).view.read (Elt F) ((hs0_0 t).unread x0))
      ((ms0_1 t).view.read (Elt F) ((hs0_1 t).unread x1))
      ((ms0_3 t).view.read (Elt F) ((hs0_3 t).unread x3))
      ((ms0_4 t).view.read (Elt F) ((hs0_4 t).unread x4))
      ((ms0_5 t).view.read (Elt F) ((hs0_5 t).unread x5))
      ((ms0_6 t).view.read (Elt F) ((hs0_6 t).unread x6))
      ((ms0_7 t).view.read (Elt F) ((hs0_7 t).unread x7))
      ((ms0_8 t).view.read (Elt F) ((hs0_8 t).unread x8))
      ((ms0_9 t).view.read (Elt F) ((hs0_9 t).unread x9)) := by
  sl_kernel_rfl

/-- The four stores of scores. -/
theorem kernelRun_tiles :
    (kernelRun0_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      x0 x1 x2 x3 x4 x5 x6 x7 x8 x9).1 = tiles x0 x1 x3 x4 x5 x6 x7 x8 x9 := by
  refine (kernelRun_tiles_read c t x0 x1 x2 x3 x4 x5 x6 x7 x8 x9).trans ?_
  rw [(hs0_0 t).read_unread, (hs0_1 t).read_unread, (hs0_3 t).read_unread, (hs0_4 t).read_unread, (hs0_5 t).read_unread, (hs0_6 t).read_unread, (hs0_7 t).read_unread, (hs0_8 t).read_unread, (hs0_9 t).read_unread]

/-- The store of the golden loss, over the contents read back. -/
theorem kernelRun_gold_read :
    (kernelRun0_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      x0 x1 x2 x3 x4 x5 x6 x7 x8 x9).2.1 = [⟨Rect.unit (s := S1x1) ![0, 0] S1x1.size inb_S1x1_S1x1_0_0, goldOut
      ((ms0_0 t).view.read (Elt F) ((hs0_0 t).unread x0))
      ((ms0_1 t).view.read (Elt F) ((hs0_1 t).unread x1))
      ((ms0_2 t).view.read (Elt F) ((hs0_2 t).unread x2))
      ((ms0_3 t).view.read (Elt F) ((hs0_3 t).unread x3))
      ((ms0_4 t).view.read (Elt F) ((hs0_4 t).unread x4))
      ((ms0_5 t).view.read (Elt F) ((hs0_5 t).unread x5))
      ((ms0_6 t).view.read (Elt F) ((hs0_6 t).unread x6))
      ((ms0_7 t).view.read (Elt F) ((hs0_7 t).unread x7))
      ((ms0_8 t).view.read (Elt F) ((hs0_8 t).unread x8))
      ((ms0_9 t).view.read (Elt F) ((hs0_9 t).unread x9))⟩] := by
  sl_kernel_rfl

/-- The store of the golden loss. -/
theorem kernelRun_gold :
    (kernelRun0_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      x0 x1 x2 x3 x4 x5 x6 x7 x8 x9).2.1 = [⟨Rect.unit (s := S1x1) ![0, 0] S1x1.size inb_S1x1_S1x1_0_0, goldOut x0 x1 x2 x3 x4 x5 x6 x7 x8 x9⟩] := by
  refine (kernelRun_gold_read c t x0 x1 x2 x3 x4 x5 x6 x7 x8 x9).trans ?_
  rw [(hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]

/-- The store of the negative loss, over the contents read back. -/
theorem kernelRun_neg_read :
    (kernelRun0_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      x0 x1 x2 x3 x4 x5 x6 x7 x8 x9).2.2.1 = [⟨Rect.unit (s := S1x1) ![0, 0] S1x1.size inb_S1x1_S1x1_0_0, negOut
      ((ms0_0 t).view.read (Elt F) ((hs0_0 t).unread x0))
      ((ms0_1 t).view.read (Elt F) ((hs0_1 t).unread x1))
      ((ms0_2 t).view.read (Elt F) ((hs0_2 t).unread x2))
      ((ms0_3 t).view.read (Elt F) ((hs0_3 t).unread x3))
      ((ms0_4 t).view.read (Elt F) ((hs0_4 t).unread x4))
      ((ms0_5 t).view.read (Elt F) ((hs0_5 t).unread x5))
      ((ms0_6 t).view.read (Elt F) ((hs0_6 t).unread x6))
      ((ms0_7 t).view.read (Elt F) ((hs0_7 t).unread x7))
      ((ms0_8 t).view.read (Elt F) ((hs0_8 t).unread x8))
      ((ms0_9 t).view.read (Elt F) ((hs0_9 t).unread x9))⟩] := by
  sl_kernel_rfl

/-- The store of the negative loss. -/
theorem kernelRun_neg :
    (kernelRun0_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      x0 x1 x2 x3 x4 x5 x6 x7 x8 x9).2.2.1 = [⟨Rect.unit (s := S1x1) ![0, 0] S1x1.size inb_S1x1_S1x1_0_0, negOut x0 x1 x2 x3 x4 x5 x6 x7 x8 x9⟩] := by
  refine (kernelRun_neg_read c t x0 x1 x2 x3 x4 x5 x6 x7 x8 x9).trans ?_
  rw [(hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]

end Cert.KernelIdeal.Batch

end
-- ==== Proof.Real.lean ====
/-
  The scores of a sequence's spans and the two losses over real numbers, as the problem states them, and what carries
  the programs' extended reals there: a sum of reals, the largest of reals, a quotient, a softmax less any number.
-/
module

public import Idealize.ShloMosaic.Lib.Pointwise
public import Mathlib.Analysis.SpecialFunctions.Log.Basic

@[expose] public section

noncomputable section

namespace Cert.Span

open Idealize.ShloMosaic

/-! ## Extended reals that are real -/

/-- A sum of reals is real. -/
theorem coe_sum {ι : Type} [Fintype ι] (f : ι → ℝ) : ∑ i, (f i : EReal) = ((∑ i, f i : ℝ) : EReal) :=
  (map_sum (⟨⟨Real.toEReal, EReal.coe_zero⟩, EReal.coe_add⟩ : ℝ →+ EReal) f Finset.univ).symm

/-- The largest of numbers below `⊤`, one of them above `⊥`, is real. -/
theorem fold_max_real {ι : Type} [Fintype ι] (f : ι → EReal) (i : ι) (ht : ∀ k, f k ≠ ⊤) (hi : f i ≠ ⊥) :
    ∃ M : ℝ, (Finset.univ : Finset ι).fold max ⊥ f = M := by
  have h1 : (Finset.univ : Finset ι).fold max ⊥ f ≠ ⊤ := by
    have : (Finset.univ : Finset ι).fold max ⊥ f < ⊤ :=
      (Finset.fold_max_lt ⊤).2 ⟨bot_lt_top, fun k _ => lt_top_iff_ne_top.2 (ht k)⟩
    exact this.ne
  have h2 : (Finset.univ : Finset ι).fold max ⊥ f ≠ ⊥ := by
    have : f i ≤ (Finset.univ : Finset ι).fold max ⊥ f := (Finset.le_fold_max _).2 (.inr ⟨i, Finset.mem_univ _, le_refl _⟩)
    exact fun h => hi (le_bot_iff.1 (h ▸ this))
  exact ⟨_, (EReal.coe_toReal h1 h2).symm⟩

/-- The largest of reals is real. -/
theorem fold_max_coe {ι : Type} [Fintype ι] [Nonempty ι] (f : ι → ℝ) :
    ∃ M : ℝ, (Finset.univ : Finset ι).fold max ⊥ (fun k => (f k : EReal)) = M :=
  fold_max_real _ (Classical.arbitrary ι) (fun _ => EReal.coe_ne_top _) (EReal.coe_ne_bot _)

/-- A quotient by a real other than zero. -/
theorem div_real (a b : ℝ) (h : b ≠ 0) : Ideal.div (a : EReal) (b : EReal) = ((a / b : ℝ) : EReal) := by
  rw [Ideal.div_coe h, ← EReal.coe_mul, mul_one_div]

/-- The larger of two reals. -/
theorem max_real (a b : ℝ) : max (a : EReal) (b : EReal) = ((max a b : ℝ) : EReal) :=
  (Monotone.map_max (fun _ _ h => EReal.coe_le_coe_iff.2 h) (a := a) (b := b)).symm

theorem log_real (a : ℝ) (h : 0 < a) : Ideal.log (a : EReal) = ((Real.log a : ℝ) : EReal) := by
  rw [Ideal.log_coe, if_neg (not_le.2 h)]

theorem sub_real (a b : ℝ) : (a : EReal) - (b : EReal) = ((a - b : ℝ) : EReal) := (EReal.coe_sub a b).symm
theorem add_real (a b : ℝ) : (a : EReal) + (b : EReal) = ((a + b : ℝ) : EReal) := (EReal.coe_add a b).symm
theorem mul_real (a b : ℝ) : (a : EReal) * (b : EReal) = ((a * b : ℝ) : EReal) := (EReal.coe_mul a b).symm
theorem ite_real (p : Prop) [Decidable p] (a b : ℝ) : (if p then (a : EReal) else (b : EReal)) = ((if p then a else b : ℝ) : EReal) := by
  split <;> rfl

theorem ofBits_low : Ideal.ofBits .f32 0xCE6E6B28#32 = ((-1000000000 : ℝ) : EReal) := by
  simp [Ideal.ofBits, Ideal.ieee]
  rw [← EReal.coe_pow, ← EReal.coe_mul, EReal.coe_eq_coe_iff]; norm_num
theorem ofBits_bot : Ideal.ofBits .f32 0xFF800000#32 = (⊥ : EReal) := by simp [Ideal.ofBits, Ideal.ieee]
theorem ofBits_top : Ideal.ofBits .f32 0x7F800000#32 = (⊤ : EReal) := by simp [Ideal.ofBits, Ideal.ieee]
theorem ofBits_eighth : Ideal.ofBits .f32 0x3E000000#32 = ((1 / 8 : ℝ) : EReal) := by
  simp [Ideal.ofBits, Ideal.ieee]
  rw [← EReal.coe_mul, EReal.coe_eq_coe_iff]; norm_num
theorem ofBits_32nd : Ideal.ofBits .f32 0x3D000000#32 = ((1 / 32 : ℝ) : EReal) := by
  simp [Ideal.ofBits, Ideal.ieee]
  rw [← EReal.coe_mul, EReal.coe_eq_coe_iff]; norm_num
theorem ofBits_32 : Ideal.ofBits .f32 0x42000000#32 = ((32 : ℝ) : EReal) := by
  simp [Ideal.ofBits, Ideal.ieee]
  rw [← EReal.coe_mul, EReal.coe_eq_coe_iff]; norm_num

/-! ## Softmax -/

/-- Lowering all logits by one number leaves each weight. -/
theorem softmax_shift {ι : Type} [Fintype ι] (x : ι → ℝ) (M : ℝ) (i : ι) :
    Real.exp (x i - M) / ∑ k, Real.exp (x k - M) = Real.exp (x i) / ∑ k, Real.exp (x k) := by
  simp only [Real.exp_sub, ← Finset.sum_div]
  exact div_div_div_cancel_right₀ (Real.exp_ne_zero M) _ _

theorem sum_exp_pos {ι : Type} [Fintype ι] [Nonempty ι] (x : ι → ℝ) : 0 < ∑ k, Real.exp (x k) :=
  Finset.sum_pos (fun _ _ => Real.exp_pos _) Finset.univ_nonempty

/-- The same for the weighted mean of the terms that `p` keeps. -/
theorem pool_shift {ι : Type} [Fintype ι] (p : ι → Prop) [DecidablePred p] (v z : ι → ℝ) (M : ℝ) :
    (∑ k, if p k then Real.exp (v k - M) * z k else 0) / (∑ k, if p k then Real.exp (v k - M) else 0)
      = (∑ k, if p k then Real.exp (v k) * z k else 0) / (∑ k, if p k then Real.exp (v k) else 0) := by
  have h1 : ∀ k, (if p k then Real.exp (v k - M) * z k else 0) = (if p k then Real.exp (v k) * z k else 0) / Real.exp M := by
    intro k; split
    · rw [Real.exp_sub]; ring
    · rw [zero_div]
  have h2 : ∀ k, (if p k then Real.exp (v k - M) else 0) = (if p k then Real.exp (v k) else 0) / Real.exp M := by
    intro k; split
    · rw [Real.exp_sub]
    · rw [zero_div]
  simp only [h1, h2, ← Finset.sum_div]
  exact div_div_div_cancel_right₀ (Real.exp_ne_zero M) _ _

theorem pool_pos {ι : Type} [Fintype ι] (p : ι → Prop) [DecidablePred p] (v : ι → ℝ) (i : ι) (hi : p i) :
    0 < ∑ k, if p k then Real.exp (v k) else 0 :=
  Finset.sum_pos' (fun k _ => by split; exacts [(Real.exp_pos _).le, le_refl _])
    ⟨i, Finset.mem_univ _, by rw [if_pos hi]; exact Real.exp_pos _⟩

/-- The logarithm of the sum of two exponentials does not depend on the number taken out. -/
theorem lse_shift (a b M : ℝ) : M + Real.log (Real.exp (a - M) + Real.exp (b - M)) = Real.log (Real.exp a + Real.exp b) := by
  rw [Real.exp_sub, Real.exp_sub, ← add_div, Real.log_div (by positivity) (Real.exp_ne_zero M), Real.log_exp]; ring

/-! ## The problem -/

/-- The query logits, those past the length at the mask's number. -/
def logit (e : Fin 512 → ℝ) (L : ℕ) (s : Fin 512) : ℝ := if s.val < L then e s else -1000000000

/-- The query attention. -/
def attn (e : Fin 512 → ℝ) (L : ℕ) (s : Fin 512) : ℝ := Real.exp (logit e L s) / ∑ t, Real.exp (logit e L t)

/-- Token `k` of the window that starts at `s`: the last token stands for those past it. -/
def tok (s : Fin 512) (k : Fin 8) : Fin 512 := ⟨min (s.val + k.val) 511, by omega⟩

/-- The number of tokens of the span at `s` of width `w + 1`. -/
def ntok (L : ℕ) (w : Fin 8) (s : Fin 512) : ℕ := min (w.val + 1) (L - s.val)

/-- A span's weighted mean of `z` under the softmax of `v`; a span without a token weighs its window evenly. -/
def pooled (v z : Fin 512 → ℝ) (L : ℕ) (w : Fin 8) (s : Fin 512) : ℝ :=
  if s.val < L then
    (∑ k : Fin 8, if k.val < ntok L w s then Real.exp (v (tok s k)) * z (tok s k) else 0)
      / (∑ k : Fin 8, if k.val < ntok L w s then Real.exp (v (tok s k)) else 0)
  else (∑ k : Fin 8, z (tok s k)) / 8

/-- A class's score of a span, from the query logits `e`, the hidden layer's output `u` and the class's projection `y`
    of each token. -/
def score (e u y : Fin 512 → ℝ) (b2 bias : ℝ) (L : ℕ) (w : Fin 8) (s : Fin 512) : ℝ :=
  pooled (fun t => attn e L t * u t + b2) (fun t => attn e L t * y t) L w s + bias

/-- The logarithm of the sum of two exponentials. -/
def lse2 (a b : ℝ) : ℝ := Real.log (Real.exp a + Real.exp b)

end Cert.Span

end
-- ==== Proof.Words.lean ====
/-
  The programs' 32-bit index words as integers: each is `word z` for an integer `z` far from the ends of the range, so
  sums, differences, smaller words and comparisons are those of the integers.
-/
module

public import Idealize.ShloMosaic.Lib.Pointwise

@[expose] public section

namespace Cert.Span

open Idealize.ShloMosaic

/-- The word of an integer. -/
def word (z : ℤ) : BitVec 32 := BitVec.ofInt 32 z

theorem word_toInt (z : ℤ) (h : -2147483648 ≤ z ∧ z < 2147483648) : (word z).toInt = z := by
  unfold word
  rw [BitVec.toInt_ofInt, Int.bmod_def]
  omega

theorem ofNat_eq_word (n : ℕ) : BitVec.ofNat 32 n = word n := (BitVec.ofInt_natCast 32 n).symm

theorem word_inj (a b : ℤ) (ha : -2147483648 ≤ a ∧ a < 2147483648) (hb : -2147483648 ≤ b ∧ b < 2147483648) :
    word a = word b ↔ a = b :=
  ⟨fun h => by rw [← word_toInt a ha, h, word_toInt b hb], fun h => by rw [h]⟩

/-- Every word is that of its value. -/
theorem eq_word (x : BitVec 32) : x = word x.toInt := (BitVec.ofInt_toInt).symm

theorem addi_word (a b : ℤ) : IntOp.addi (word a) (word b) = word (a + b) := (BitVec.ofInt_add a b).symm
theorem subi_word (a b : ℤ) : IntOp.subi (word a) (word b) = word (a - b) := by
  show word a - word b = _
  rw [BitVec.sub_eq_add_neg, sub_eq_add_neg]
  unfold word
  rw [BitVec.ofInt_add, BitVec.ofInt_neg]

theorem bit_eq_one (p : Bool) : BitVec.ofBool p = 1#1 ↔ p = true := by cases p <;> decide

/-- A comparison's bit is set exactly when the comparison of the values holds. -/
theorem slt_iff (x y : BitVec 32) : IntOp.cmpi .slt x y = 1#1 ↔ x.toInt < y.toInt := by
  show BitVec.ofBool (x.slt y) = 1#1 ↔ _
  rw [bit_eq_one, BitVec.slt_iff_toInt_lt]
theorem sle_iff (x y : BitVec 32) : IntOp.cmpi .sle x y = 1#1 ↔ x.toInt ≤ y.toInt := by
  show BitVec.ofBool (x.sle y) = 1#1 ↔ _
  rw [bit_eq_one, BitVec.sle_iff_toInt_le]
theorem sgt_iff (x y : BitVec 32) : IntOp.cmpi .sgt x y = 1#1 ↔ y.toInt < x.toInt := by
  show BitVec.ofBool (y.slt x) = 1#1 ↔ _
  rw [bit_eq_one, BitVec.slt_iff_toInt_lt]
theorem sge_iff (x y : BitVec 32) : IntOp.cmpi .sge x y = 1#1 ↔ y.toInt ≤ x.toInt := by
  show BitVec.ofBool (y.sle x) = 1#1 ↔ _
  rw [bit_eq_one, BitVec.sle_iff_toInt_le]
theorem eq_iff (x y : BitVec 32) : IntOp.cmpi .eq x y = 1#1 ↔ x = y := by
  show BitVec.ofBool (x == y) = 1#1 ↔ _
  rw [bit_eq_one, beq_iff_eq]
theorem ne_iff (x y : BitVec 32) : IntOp.cmpi .ne x y = 1#1 ↔ x ≠ y := by
  show BitVec.ofBool (x != y) = 1#1 ↔ _
  rw [bit_eq_one, bne_iff_ne]

theorem minsi_word (a b : ℤ) (ha : -2147483648 ≤ a ∧ a < 2147483648) (hb : -2147483648 ≤ b ∧ b < 2147483648) :
    IntOp.minsi (word a) (word b) = word (min a b) := by
  show (if (word a).slt (word b) then word a else word b) = _
  by_cases h : a < b
  · rw [if_pos (by rw [BitVec.slt_iff_toInt_lt, word_toInt a ha, word_toInt b hb]; exact h), min_eq_left h.le]
  · rw [if_neg (by rw [BitVec.slt_iff_toInt_lt, word_toInt a ha, word_toInt b hb]; exact h), min_eq_right (not_lt.1 h)]
theorem maxsi_word (a b : ℤ) (ha : -2147483648 ≤ a ∧ a < 2147483648) (hb : -2147483648 ≤ b ∧ b < 2147483648) :
    IntOp.maxsi (word a) (word b) = word (max a b) := by
  show (if (word b).slt (word a) then word a else word b) = _
  by_cases h : b < a
  · rw [if_pos (by rw [BitVec.slt_iff_toInt_lt, word_toInt a ha, word_toInt b hb]; exact h), max_eq_left h.le]
  · rw [if_neg (by rw [BitVec.slt_iff_toInt_lt, word_toInt a ha, word_toInt b hb]; exact h), max_eq_right (not_lt.1 h)]

/-- A choice by a bit, as one by what the bit says. -/
theorem select_iff {α : Type} {c : BitVec 1} {p : Prop} [Decidable p] (h : c = 1#1 ↔ p) (a b : α) :
    Scalar.select c a b = if p then a else b := by
  show (if c = 1#1 then a else b) = _
  simp only [h]

theorem andi_iff (a b : BitVec 1) : IntOp.andi a b = 1#1 ↔ a = 1#1 ∧ b = 1#1 :=
  (by decide : ∀ a b : BitVec 1, a &&& b = 1#1 ↔ a = 1#1 ∧ b = 1#1) a b
theorem ori_iff (a b : BitVec 1) : IntOp.ori a b = 1#1 ↔ a = 1#1 ∨ b = 1#1 :=
  (by decide : ∀ a b : BitVec 1, a ||| b = 1#1 ↔ a = 1#1 ∨ b = 1#1) a b
theorem not_iff (a : BitVec 1) : IntOp.xori a 1#1 = 1#1 ↔ ¬a = 1#1 :=
  (by decide : ∀ a : BitVec 1, a ^^^ 1#1 = 1#1 ↔ ¬a = 1#1) a
/-- Bits that say the same are the same. -/
theorem bit_ext {a b : BitVec 1} (h : a = 1#1 ↔ b = 1#1) : a = b :=
  (by decide : ∀ a b : BitVec 1, (a = 1#1 ↔ b = 1#1) → a = b) a b h

/-- A bit as a real number. -/
noncomputable def bit (c : BitVec 1) : ℝ := if c = 1#1 then 1 else 0

/-! ## The remainder with the divisor's sign -/

/-- The remainder of `a` by `n` moved to `n`'s sign, as the programs compute it. -/
def modWord (u : ArithUnit) (a n : BitVec 32) : BitVec 32 :=
  Scalar.select (IntOp.andi (IntOp.xori (IntOp.cmpi .slt (IntOp.remsi u a n) 0#32) (IntOp.cmpi .slt n 0#32))
      (IntOp.cmpi .ne (IntOp.remsi u a n) 0#32))
    (IntOp.addi (IntOp.remsi u a n) n) (IntOp.remsi u a n)

theorem remsi_pos (u : ArithUnit) (a : BitVec 32) (n : ℤ) (hn : 0 < n ∧ n < 2147483648) :
    (IntOp.remsi u a (word n)).toInt = a.toInt.tmod n := by
  have h0 : word n ≠ 0#32 := fun h => by
    have := congrArg BitVec.toInt h
    rw [word_toInt n ⟨by omega, hn.2⟩] at this
    exact absurd this (by simpa using hn.1.ne')
  have h1 : word n ≠ -1#32 := fun h => by
    have := congrArg BitVec.toInt h
    rw [word_toInt n ⟨by omega, hn.2⟩] at this
    have e : (-1#32 : BitVec 32).toInt = -1 := by decide
    omega
  unfold IntOp.remsi
  rw [if_neg]
  · rw [BitVec.toInt_srem, word_toInt n ⟨by omega, hn.2⟩]
  · unfold IntOp.SDivCorner
    rintro (h | h)
    · exact h0 h
    · exact h1 h.2

/-- By a positive number it is the integers' remainder, on either unit. -/
theorem modWord_pos (u : ArithUnit) (a : BitVec 32) (n : ℤ) (hn : 0 < n ∧ n < 2147483648) :
    modWord u a (word n) = word (a.toInt % n) := by
  have hr := remsi_pos u a n hn
  have hb : a.toInt.tmod n < n := Int.tmod_lt_of_pos _ hn.1
  have hb' : -n < a.toInt.tmod n := by
    have := Int.lt_tmod_of_pos a.toInt hn.1
    omega
  have hmod : a.toInt % n = if a.toInt.tmod n < 0 then a.toInt.tmod n + n else a.toInt.tmod n := by
    have e : a.toInt % n = a.toInt.tmod n % n := by
      rw [Int.tmod_def, Int.sub_mul_emod_self_left]
    rw [e]
    split
    · rename_i h
      rw [← Int.add_emod_right, Int.emod_eq_of_lt (by omega) (by omega)]
    · rename_i h
      exact Int.emod_eq_of_lt (by omega) (by omega)
  have hc : IntOp.andi (IntOp.xori (IntOp.cmpi .slt (IntOp.remsi u a (word n)) 0#32) (IntOp.cmpi .slt (word n) 0#32))
      (IntOp.cmpi .ne (IntOp.remsi u a (word n)) 0#32) = 1#1 ↔ a.toInt.tmod n < 0 := by
    have hn0 : IntOp.cmpi .slt (word n) 0#32 = 0#1 := by
      refine bit_ext ⟨fun h => ?_, fun h => absurd h (by decide)⟩
      rw [slt_iff, word_toInt n ⟨by omega, hn.2⟩] at h
      have e : (0#32 : BitVec 32).toInt = 0 := by decide
      omega
    have hx : ∀ c : BitVec 1, IntOp.xori c 0#1 = c := by decide
    rw [andi_iff, hn0, hx, slt_iff, ne_iff, hr]
    have e : (0#32 : BitVec 32).toInt = 0 := by decide
    rw [e]
    refine ⟨fun h => h.1, fun h => ⟨h, fun h' => ?_⟩⟩
    rw [h', e] at hr
    omega
  unfold modWord
  rw [select_iff hc, eq_word (IntOp.remsi u a (word n)), hr, addi_word, hmod]
  split <;> rfl

end Cert.Span

end
-- ==== Proof.KernelScore.lean ====
/-
  The kernel's scores of one batch entry's spans, at each span: the problem's `Span.score` of the entry's rows, given
  that the rows hold reals.
-/
module

public import proofs.«01_k».proof.Proof.Batch
public import proofs.«01_k».proof.Proof.Real
public import proofs.«01_k».proof.Proof.Words
public import Idealize.ShloMosaic.Lib.Pointwise.IndexVar

@[expose] public section

set_option maxRecDepth 16384

noncomputable section

namespace Cert.KernelIdeal.Batch

open Idealize.ShloMosaic Idealize.ShloMosaic.TcCoe
open Cert.KernelIdeal.Gen Cert.Span

/-- A row that holds reals. -/
def IsRow (x : FVec Ideal S1x512 .f32) (f : Fin 512 → ℝ) : Prop := ∀ s, x (ix2 0 s) = (f s : EReal)
/-- Eight rows that hold reals. -/
def IsTile (x : FVec Ideal S8x512 .f32) (f : Fin 8 → Fin 512 → ℝ) : Prop := ∀ w s, x (ix2 w s) = (f w s : EReal)

variable {e u y : FVec Ideal S1x512 .f32} {e' u' y' : Fin 512 → ℝ} {l : ℕ}

theorem slt_pos (n l : ℕ) (hn : n < 2147483648) (hl : l < 2147483648) :
    IntOp.cmpi .slt (BitVec.ofNat 32 n) (word l) = 1#1 ↔ n < l := by
  rw [slt_iff, ofNat_eq_word, word_toInt _ (by omega), word_toInt _ (by omega)]; omega

theorem masked_row (he : IsRow e e') (hl : l ≤ 512) : IsRow (masked e (word l)) (logit e' l) := by
  intro s
  pointwise [masked]
  rw [select_iff (slt_pos s l (by omega) (by omega)), he s]
  exact (congrArg (fun z => if s.val < l then (e' s : EReal) else z) ofBits_low).trans (ite_real _ _ _)

theorem expRow_row (he : IsRow e e') : ∃ M : ℝ, IsRow (expRow e) fun s => Real.exp (e' s - M) := by
  obtain ⟨M, hM⟩ := fold_max_coe e'
  refine ⟨M, fun s => ?_⟩
  pointwise [expRow]
  simp only [he _, ofBits_bot, hM, sub_real, Ideal.exp_coe]

theorem att_row (he : IsRow e e') (hl : l ≤ 512) : IsRow (att e (word l)) (attn e' l) := by
  intro s
  obtain ⟨M, hM⟩ := expRow_row (masked_row he hl)
  pointwise [att]
  simp only [hM _, coe_sum]
  rw [div_real _ _ (sum_exp_pos _).ne', softmax_shift]
  rfl

/-- A row moved left reads further on, at most at its last place. -/
theorem shift_apply (x : FVec Ideal S1x512 .f32) (k : ℕ) (hk : k ≤ 7) (s : Fin 512) :
    shift x k hk (ix2 0 s) = x (ix2 0 ⟨min (s.val + k) 511, by omega⟩) := by
  pointwise [shift, last]
  split
  · rename_i h
    exact congrArg (fun z => x (ix2 0 z)) (Fin.ext (by show k + s.val = min (s.val + k) 511; omega))
  · rename_i h
    exact congrArg (fun z => x (ix2 0 z)) (Fin.ext (by show 511 = min (s.val + k) 511; omega))

theorem shift₁_apply (x : FVec Ideal S1x512 .f32) (s : Fin 512) :
    shift₁ x (ix2 0 s) = x (ix2 0 ⟨min (s.val + 1) 511, by omega⟩) := by
  pointwise [shift₁, last]
  split
  · rename_i h
    exact congrArg (fun z => x (ix2 0 z)) (Fin.ext (by show 1 + s.val = min (s.val + 1) 511; omega))
  · rename_i h
    exact congrArg (fun z => x (ix2 0 z)) (Fin.ext (by show 511 + (s.val - 511) = min (s.val + 1) 511; omega))

theorem windows_apply (x : FVec Ideal S1x512 .f32) (k : Fin 8) (s : Fin 512) : windows x (ix2 k s) = x (ix2 0 (tok s k)) := by
  pointwise [windows]
  have hz : ∀ (n : ℕ) (h : n < 1), (⟨n, h⟩ : Fin 1) = 0 := fun n h => Fin.ext (by show n = 0; omega)
  simp only [hz, shift_apply, shift₁_apply]
  unfold tok
  fin_vals k with hk
  all_goals simp only [hk, Nat.reduceSub, Nat.reduceLT, ↓reduceDIte]
  exact congrArg (fun z => x (ix2 0 z)) (Fin.ext (by show s.val = min (s.val + 0) 511; omega))

theorem windows_tile (he : IsRow e e') : IsTile (windows e) fun k s => e' (tok s k) :=
  fun k s => (windows_apply e k s).trans (he _)

variable {v z : FVec Ideal S8x512 .f32} {v' z' : Fin 8 → Fin 512 → ℝ}

theorem expWin_tile (hv : IsTile v v') : ∃ M : Fin 512 → ℝ, IsTile (expWin v) fun k s => Real.exp (v' k s - M s) := by
  choose M hM using fun s => fold_max_coe fun k => v' k s
  refine ⟨M, fun k s => ?_⟩
  pointwise [expWin]
  simp only [hv _ _, ofBits_bot, hM, sub_real, Ideal.exp_coe]

theorem mulf_tile (hv : IsTile v v') (hz : IsTile z z') : IsTile (mulf v z) fun k s => v' k s * z' k s := by
  intro k s
  pointwise
  rw [hv, hz, mul_real]

theorem row_apply (hv : IsTile v v') (k : Fin 8) (s : Fin 512) : row v k.val (ix2 0 s) = (v' k s : EReal) := by
  pointwise [row]
  exact (congrArg (fun i => v (ix2 i s)) (Fin.ext (Nat.mod_eq_of_lt k.isLt))).trans (hv k s)

/-- The running sum of the rows. -/
theorem cum_apply (hv : IsTile v v') (s : Fin 512) : ∀ j, j < 8 →
    cum v j (ix2 0 s) = ((∑ k : Fin 8, if k.val < j + 1 then v' k s else 0 : ℝ) : EReal) := by
  intro j
  induction j with
  | zero =>
    intro _
    refine (row_apply hv 0 s).trans (congrArg _ ?_)
    rw [Finset.sum_eq_single_of_mem (0 : Fin 8) (Finset.mem_univ _) fun k _ hk => if_neg fun h => hk (Fin.ext (by
      show k.val = 0; omega))]
    rfl
  | succ j ih =>
    intro hj
    show cum v j (ix2 0 s) + row v (j + 1) (ix2 0 s) = _
    rw [ih (by omega), row_apply hv ⟨j + 1, hj⟩ s, add_real]
    have h1 : v' ⟨j + 1, hj⟩ s = ∑ k : Fin 8, if k = ⟨j + 1, hj⟩ then v' k s else 0 := by
      rw [Finset.sum_ite_eq' Finset.univ _ fun k => v' k s, if_pos (Finset.mem_univ _)]
    rw [h1, ← Finset.sum_add_distrib]
    refine congrArg _ (Finset.sum_congr rfl fun k _ => ?_)
    by_cases h : k = ⟨j + 1, hj⟩
    · have h' : k.val = j + 1 := congrArg Fin.val h
      rw [if_pos h, if_neg (by omega), if_pos (by omega), zero_add]
    · have h' : k.val ≠ j + 1 := fun q => h (Fin.ext q)
      rw [if_neg h, add_zero]
      exact if_congr (by omega) rfl rfl

/-- The choice among the running sums takes the one its word names. -/
theorem pick_apply (iw : IVec S8x512 32) (w : Fin 8) (s : Fin 512) (i : ℕ) (hi : i < 8) (hw : iw (ix2 w s) = word i) :
    ∀ n, n ≤ 8 → i < n → pick iw v n (ix2 w s) = cum v i (ix2 0 s) := by
  intro n
  induction n with
  | zero => intro _ h; exact absurd h (by omega)
  | succ n ih =>
    intro hn h
    have step : pick iw v (n + 1) (ix2 w s)
        = Scalar.select (IntOp.cmpi .eq (iw (ix2 w s)) (BitVec.ofNat 32 n)) (cum v n (ix2 0 s)) (pick iw v n (ix2 w s)) := by
      rw [pick]
      pointwise [down]
    have hc : IntOp.cmpi .eq (iw (ix2 w s)) (BitVec.ofNat 32 n) = 1#1 ↔ i = n := by
      rw [eq_iff, hw, ofNat_eq_word, word_inj _ _ (by omega) (by omega)]; omega
    rw [step, select_iff hc]
    split
    · rename_i h; rw [h]
    · exact ih (by omega) (by omega)

theorem lastTok_apply (w : Fin 8) (s : Fin 512) (hl : l ≤ 512) (h : s.val < l) :
    lastTok (word l) (ix2 w s) = word (ntok l w s - 1 : ℕ) := by
  pointwise [lastTok, left, w8, p8]
  rw [ofNat_eq_word, ofNat_eq_word, subi_word, show (1#32 : BitVec 32) = word 1 from rfl, subi_word,
    minsi_word _ _ (by omega) (by omega)]
  congr 1
  unfold ntok
  omega

theorem left_apply (s : Fin 512) (hl : l ≤ 512) :
    IntOp.cmpi .sge (IntOp.subi (word l) (BitVec.ofNat 32 s.val)) 1#32 = 1#1 ↔ s.val < l := by
  rw [sge_iff, ofNat_eq_word s.val, subi_word, word_toInt _ (by omega), show (1#32 : BitVec 32).toInt = 1 from by decide]; omega

/-- The weighted means are the problem's. -/
theorem pool_tile {v' z' : Fin 512 → ℝ} {bs : Ideal .f32} {bs' : ℝ} (hv : IsTile v fun k s => v' (tok s k))
    (hz : IsTile z fun k s => z' (tok s k)) (hb : bs = (bs' : EReal)) (hl : l ≤ 512) :
    IsTile (pool (word l) v z bs) fun w s => pooled v' z' l w s + bs' := by
  intro w s
  obtain ⟨M, hM⟩ := expWin_tile hv
  have hMz := mulf_tile hM hz
  have read : pool (word l) v z bs (ix2 w s)
      = Scalar.select (IntOp.cmpi .sge (IntOp.subi (word l) (BitVec.ofNat 32 s.val)) 1#32)
          (Ideal.div (pick (lastTok (word l)) (mulf (expWin v) z) 8 (ix2 w s)) (pick (lastTok (word l)) (expWin v) 8 (ix2 w s)))
          ((∑ x, z (ix2 x s)) * Ideal.ofBits FTy.f32 0x3E000000#32) + bs := by
    pointwise [pool, left, p8, mean, down]
  show _ = ((pooled v' z' l w s + bs' : ℝ) : EReal)
  rw [read, select_iff (left_apply s hl), hb]
  unfold pooled
  by_cases h : s.val < l
  · have hc : ntok l w s - 1 < 8 := by unfold ntok; omega
    have hc' : ntok l w s - 1 + 1 = ntok l w s := by unfold ntok; omega
    rw [if_pos h, if_pos h, pick_apply _ w s _ hc (lastTok_apply w s hl h) 8 (le_refl _) hc,
      pick_apply _ w s _ hc (lastTok_apply w s hl h) 8 (le_refl _) hc, cum_apply hMz s _ hc, cum_apply hM s _ hc, hc',
      ← pool_shift _ (fun k => v' (tok s k)) (fun k => z' (tok s k)) (M s), div_real _ _ ?_, add_real]
    exact (pool_pos _ (fun k => v' (tok s k) - M s) (0 : Fin 8) (by unfold ntok; show 0 < _; omega)).ne'
  · rw [if_neg h, if_neg h]
    simp only [hz _ _, coe_sum]
    refine (congrArg (fun q => _ * q + (bs' : EReal)) ofBits_eighth).trans ?_
    rw [mul_real, add_real, mul_one_div]

/-- The kernel's scores of a class. -/
theorem chan_tile {b2 bs : Ideal .f32} {b2' bs' : ℝ} (he : IsRow e e') (hu : IsRow u u') (hy : IsRow y y')
    (h2 : b2 = (b2' : EReal)) (hb : bs = (bs' : EReal)) (hl : l ≤ 512) :
    IsTile (chan e u y (word l) b2 bs) (score e' u' y' b2' bs' l) := by
  refine pool_tile (windows_tile (e' := fun t => attn e' l t * u' t + b2') ?_)
    (windows_tile (e' := fun t => attn e' l t * y' t) ?_) hb hl
  · intro s
    pointwise
    rw [att_row he hl s, hu s, h2, mul_real, add_real]
  · intro s
    pointwise
    rw [att_row he hl s, hy s, mul_real]

end Cert.KernelIdeal.Batch

end
-- ==== Proof.Problem.lean ====
/-
  The whole problem over real numbers: the scores of every entry's spans, the golden loss and the negative loss.
-/
module

public import proofs.«01_k».proof.Proof.Real
public import proofs.«01_k».proof.Proof.Words

@[expose] public section

noncomputable section

namespace Cert.Span

open Idealize.ShloMosaic

/-- Whether the span at `s` of width `w + 1` is there, in a sequence of length `L`. -/
def validWord (L w s : BitVec 32) : BitVec 1 :=
  IntOp.andi (IntOp.cmpi .slt s L)
    (IntOp.ori (IntOp.cmpi .eq w 0#32) (IntOp.cmpi .sle (IntOp.addi s w) (IntOp.subi L 1#32)))

/-- The end of the span at `s` of width `w + 1`. -/
def endWord (L w s : BitVec 32) : BitVec 32 := IntOp.addi (IntOp.minsi (IntOp.addi s w) (IntOp.subi L 1#32)) 1#32

/-- Whether the span starts and ends where the golden span at `gs` of width `gw + 1` does. -/
def hitWord (L gs gw w s : BitVec 32) : BitVec 1 :=
  IntOp.andi (IntOp.cmpi .eq s gs) (IntOp.cmpi .eq (endWord L w s) (endWord L gw gs))

/-- The problem's arguments: the numbers as reals, each length, the golden spans' words. -/
structure Data where
  h : Fin 4 → Fin 512 → Fin 256 → ℝ
  len : Fin 4 → ℕ
  len_le : ∀ b, len b ≤ 512
  golden : Fin 4 → Fin 8 → Fin 2 → BitVec 32
  q : Fin 256 → ℝ
  tw : Fin 256 → ℝ
  W1 : Fin 256 → Fin 64 → ℝ
  W2 : Fin 64 → ℝ
  b2 : ℝ
  Ws : Fin 256 → Fin 2 → ℝ
  bs : Fin 2 → ℝ

namespace Data

variable (d : Data)

/-- The query logits of an entry's tokens. -/
def e (b : Fin 4) (s : Fin 512) : ℝ := ∑ k, d.h b s k * d.q k
/-- A class's projection of them. -/
def y (c : Fin 2) (b : Fin 4) (s : Fin 512) : ℝ := ∑ k, d.h b s k * d.Ws k c
/-- The hidden layer's output at them. -/
def u (b : Fin 4) (s : Fin 512) : ℝ := ∑ j, max (∑ k, d.h b s k * d.tw k * d.W1 k j) 0 * d.W2 j
/-- A class's score of the span at `s` of width `w + 1`. -/
def score (c : Fin 2) (b : Fin 4) (w : Fin 8) (s : Fin 512) : ℝ :=
  Span.score (d.e b) (d.u b) (d.y c b) d.b2 (d.bs c) (d.len b) w s

theorem start_lt (b : Fin 4) (g : Fin 8) : 0 ≤ (d.golden b g 0).toInt % (max (d.len b) 1 : ℕ)
    ∧ (d.golden b g 0).toInt % (max (d.len b) 1 : ℕ) < 512 := by
  have h := d.len_le b
  have h1 := Int.emod_nonneg (d.golden b g 0).toInt (b := (max (d.len b) 1 : ℕ)) (by omega)
  have h2 := Int.emod_lt_of_pos (d.golden b g 0).toInt (b := (max (d.len b) 1 : ℕ)) (by omega)
  exact ⟨h1, by omega⟩

/-- A golden span's start and its width less one. -/
def start (b : Fin 4) (g : Fin 8) : Fin 512 :=
  ⟨((d.golden b g 0).toInt % (max (d.len b) 1 : ℕ)).toNat, by have := d.start_lt b g; omega⟩
def width (b : Fin 4) (g : Fin 8) : Fin 8 := ⟨((d.golden b g 1).toInt % 8).toNat, by omega⟩

/-- The logarithm of the sum of the two scores' exponentials. -/
def lse (b : Fin 4) (w : Fin 8) (s : Fin 512) : ℝ := lse2 (d.score 0 b w s) (d.score 1 b w s)

/-- The golden loss. -/
def goldLoss : ℝ :=
  -((∑ b, ∑ g, (d.score 1 b (d.width b g) (d.start b g) - d.lse b (d.width b g) (d.start b g))) / 32)

/-- The spans that are there and not golden. -/
def IsNeg (b : Fin 4) (w : Fin 8) (s : Fin 512) : Prop :=
  validWord (word (d.len b)) (word w.val) (word s.val) = 1#1
    ∧ ¬∃ g, hitWord (word (d.len b)) (word (d.start b g).val) (word (d.width b g).val) (word w.val) (word s.val) = 1#1

open Classical in
/-- One at such a span, zero at another. -/
def neg (b : Fin 4) (w : Fin 8) (s : Fin 512) : ℝ := if d.IsNeg b w s then 1 else 0

/-- The negative loss. -/
def negLoss : ℝ :=
  (∑ b, ∑ w, ∑ s, d.neg b w s * (d.lse b w s - d.score 0 b w s)) / max (∑ b, ∑ w, ∑ s, d.neg b w s) 1

/-- The divisor of a golden start: the length, or one. -/
theorem divisor_word (b : Fin 4) : Scalar.select (IntOp.cmpi .eq (IntOp.maxsi (word (d.len b)) 1#32) 0#32) 1#32 (IntOp.maxsi (word (d.len b)) 1#32)
    = word (max (d.len b) 1 : ℕ) := by
  have hl := d.len_le b
  have hm : IntOp.maxsi (word (d.len b)) 1#32 = word (max (d.len b) 1 : ℕ) := by
    refine (maxsi_word (d.len b) 1 (by omega) (by omega)).trans ?_
    push_cast
    rfl
  rw [hm]
  refine (select_iff (p := False) ((eq_iff _ _).trans ⟨fun h => ?_, False.elim⟩) _ _).trans (if_neg not_false)
  have h := (word_inj (max (d.len b) 1 : ℕ) 0 (by omega) (by omega)).1 h
  omega

/-- The golden words brought into range, as the programs compute them. -/
theorem start_word (u : ArithUnit) (b : Fin 4) (g : Fin 8) :
    modWord u (d.golden b g 0) (word (max (d.len b) 1 : ℕ)) = word (d.start b g).val := by
  have h := d.len_le b
  have h' := d.start_lt b g
  rw [modWord_pos u _ _ (by omega)]
  congr 1
  show _ = ((((d.golden b g 0).toInt % (max (d.len b) 1 : ℕ)).toNat : ℕ) : ℤ)
  omega

theorem width_word (u : ArithUnit) (b : Fin 4) (g : Fin 8) : modWord u (d.golden b g 1) 8#32 = word (d.width b g).val := by
  rw [show (8#32 : BitVec 32) = word 8 from rfl, modWord_pos u _ _ (by omega)]
  congr 1
  show _ = ((((d.golden b g 1).toInt % 8).toNat : ℕ) : ℤ)
  omega

theorem bit_neg (b : Fin 4) (w : Fin 8) (s : Fin 512) {c : BitVec 1} (h : c = 1#1 ↔ d.IsNeg b w s) : bit c = d.neg b w s := by
  unfold bit neg
  by_cases q : c = 1#1
  · rw [if_pos q, if_pos (h.1 q)]
  · rw [if_neg q, if_neg fun r => q (h.2 r)]

end Data

end Cert.Span

end
-- ==== Proof.KernelLoss.lean ====
/-
  The kernel's tile of scores and its two losses' sums over one batch entry, as sums of reals over the entry's spans.
-/
module

public import proofs.«01_k».proof.Proof.KernelScore
public import proofs.«01_k».proof.Proof.Problem

@[expose] public section

set_option maxRecDepth 16384

noncomputable section

namespace Cert.KernelIdeal.Batch

open Idealize.ShloMosaic Idealize.ShloMosaic.TcCoe
open Cert.KernelIdeal.Gen Cert.Span

variable {v z : FVec Ideal S8x512 .f32} {v' z' : Fin 8 → Fin 512 → ℝ} {l : ℕ}

/-- A bit converted to a number. -/
theorem sitofp_bit (c : BitVec 1) : FloatOps.sitofp (F := Ideal) .f32 (BitVec.setWidth 32 c) = (bit c : EReal) := by
  have h : (BitVec.setWidth 32 c).toInt = if c = 1#1 then 1 else 0 :=
    (by decide : ∀ c : BitVec 1, (BitVec.setWidth 32 c).toInt = if c = 1#1 then 1 else 0) c
  show (((BitVec.setWidth 32 c).toInt : ℝ) : EReal) = _
  rw [h]
  unfold bit
  split <;> simp

theorem indicator_apply (x : IVec S8x512 1) (w : Fin 8) (s : Fin 512) :
    indicator (F := Ideal) x (ix2 w s) = (bit (x (ix2 w s)) : EReal) := sitofp_bit _

/-- The matrix that interleaves the classes. -/
theorem perm_apply (i k : Fin 16) : perm (F := Ideal) (ix2 i k) = ((if i.val % 8 * 2 + i.val / 8 = k.val then 1 else 0 : ℝ) : EReal) := by
  pointwise [perm, k0_pay11, k0_pay10, k0_pay9, k0_pay8]
  rw [sitofp_bit]
  unfold bit
  refine congrArg _ (if_congr ?_ rfl rfl)
  revert i k
  decide +kernel

/-- A stored score, class by class along the row. -/
theorem tile_apply (hv : IsTile v v') (hz : IsTile z z') (s : Fin 512) (k : Fin 16) :
    tile v z (ix3 0 s k) = ((if k.val % 2 = 0 then v' ⟨k.val / 2, by omega⟩ s else z' ⟨k.val / 2, by omega⟩ s : ℝ) : EReal) := by
  pointwise [tile]
  simp only [hv _ _, hz _ _, perm_apply, mul_real, coe_sum, add_real]
  refine congrArg _ ?_
  simp only [mul_ite, mul_one, mul_zero]
  by_cases h : k.val % 2 = 0
  · rw [if_pos h, Finset.sum_eq_single_of_mem (⟨k.val / 2, by omega⟩ : Fin 8) (Finset.mem_univ _) ?_, Finset.sum_eq_zero ?_, add_zero,
      if_pos (by show k.val / 2 % 8 * 2 + k.val / 2 / 8 = k.val; omega)]
    · exact fun x _ => if_neg (by have := x.isLt; show ¬(8 + x.val) % 8 * 2 + (8 + x.val) / 8 = k.val; omega)
    · exact fun x _ hx => if_neg fun q => hx (Fin.ext (by
        have := x.isLt; have q : x.val % 8 * 2 + x.val / 8 = k.val := q; show x.val = k.val / 2; omega))
  · rw [if_neg h, Finset.sum_eq_zero ?_, Finset.sum_eq_single_of_mem (⟨k.val / 2, by omega⟩ : Fin 8) (Finset.mem_univ _) ?_, zero_add,
      if_pos (by show (8 + k.val / 2) % 8 * 2 + (8 + k.val / 2) / 8 = k.val; omega)]
    · exact fun x _ hx => if_neg fun q => hx (Fin.ext (by
        have := x.isLt; have q : (8 + x.val) % 8 * 2 + (8 + x.val) / 8 = k.val := q; show x.val = k.val / 2; omega))
    · exact fun x _ => if_neg (by have := x.isLt; show ¬x.val % 8 * 2 + x.val / 8 = k.val; omega)

theorem total_apply (hv : IsTile v v') : total v (ix2 0 0) = ((∑ w, ∑ s, v' w s : ℝ) : EReal) := by
  pointwise [total]
  simp only [hv _ _, coe_sum]

theorem lse_tile (hv : IsTile v v') (hz : IsTile z z') : IsTile (lse v z) fun w s => lse2 (v' w s) (z' w s) := by
  intro w s
  pointwise [lse]
  rw [hv, hz, max_real, sub_real, sub_real, Ideal.exp_coe, Ideal.exp_coe, add_real, log_real _ (by positivity), add_real, lse_shift]
  rfl

theorem subf_tile (hv : IsTile v v') (hz : IsTile z z') : IsTile (subf v z) fun w s => v' w s - z' w s := by
  intro w s
  pointwise
  rw [hv, hz, sub_real]

theorem indicator_tile (x : IVec S8x512 1) : IsTile (indicator x) fun w s => bit (x (ix2 w s)) := indicator_apply x

/-- A golden span's term: the whole tile's sum has one number that is not masked out. -/
theorem gold_term (hv : IsTile v v') (a : Fin 512) (c : Fin 8) :
    total (mulf (indicator (andi (cmpi .eq p8 (broadcast S8x512 (word a.val))) (cmpi .eq w8 (broadcast S8x512 (word c.val))))) v)
      (ix2 0 0) = (v' c a : EReal) := by
  rw [total_apply (mulf_tile (indicator_tile _) hv)]
  refine congrArg _ ?_
  have hb : ∀ (w : Fin 8) (s : Fin 512),
      bit (andi (cmpi .eq p8 (broadcast S8x512 (word a.val))) (cmpi .eq w8 (broadcast S8x512 (word c.val))) (ix2 w s))
        = if s = a ∧ w = c then 1 else 0 := by
    intro w s
    unfold bit
    refine if_congr ?_ rfl rfl
    pointwise [p8, w8]
    rw [andi_iff, eq_iff, eq_iff, ofNat_eq_word, ofNat_eq_word, word_inj _ _ (by omega) (by omega), word_inj _ _ (by omega) (by omega)]
    exact and_congr ⟨fun h => Fin.ext (by omega), fun h => by rw [h]⟩ ⟨fun h => Fin.ext (by omega), fun h => by rw [h]⟩
  simp only [hb, ite_mul, one_mul, zero_mul]
  rw [Finset.sum_eq_single_of_mem c (Finset.mem_univ _) fun w _ hw => Finset.sum_eq_zero fun s _ => if_neg fun h => hw h.2,
    Finset.sum_eq_single_of_mem a (Finset.mem_univ _) fun s _ hs => if_neg fun h => hs h.1, if_pos ⟨rfl, rfl⟩]

/-- The golden sum of an entry. -/
theorem goldSum_apply {acc : FVec Ideal S1x1 .f32} {acc' : ℝ} (ha : acc (ix2 0 0) = (acc' : EReal)) (hv : IsTile v v') (hz : IsTile z z')
    (S W : ℕ → BitVec 32) (S' : Fin 8 → Fin 512) (W' : Fin 8 → Fin 8) (hS : ∀ g : Fin 8, S g.val = word (S' g).val)
    (hW : ∀ g : Fin 8, W g.val = word (W' g).val) :
    goldSum acc v z S W 8 (ix2 0 0)
      = ((acc' + ∑ g : Fin 8, (z' (W' g) (S' g) - lse2 (v' (W' g) (S' g)) (z' (W' g) (S' g))) : ℝ) : EReal) := by
  have key : ∀ n (hn : n ≤ 8), goldSum acc v z S W n (ix2 0 0)
      = ((acc' + ∑ g : Fin n, (z' (W' (g.castLE hn)) (S' (g.castLE hn))
          - lse2 (v' (W' (g.castLE hn)) (S' (g.castLE hn))) (z' (W' (g.castLE hn)) (S' (g.castLE hn)))) : ℝ) : EReal) := by
    intro n
    induction n with
    | zero => intro _; rw [Fin.sum_univ_zero, add_zero]; exact ha
    | succ n ih =>
      intro hn
      have hs := hS ⟨n, hn⟩
      have hw := hW ⟨n, hn⟩
      rw [Fin.sum_univ_castSucc, ← add_assoc, ← add_real]
      refine congrArg₂ (· + ·) (ih (by omega)) ?_
      rw [show S n = word (S' ⟨n, hn⟩).val from hs, show W n = word (W' ⟨n, hn⟩).val from hw]
      exact gold_term (subf_tile hz (lse_tile hv hz)) _ _
  exact key 8 (le_refl _)

theorem isGold_iff (L : BitVec 32) (S W : ℕ → BitVec 32) (i : S8x512.Idx) :
    ∀ n, isGold L S W n i = 1#1 ↔ ∃ g < n, goldHit L (S g) (W g) i = 1#1 := by
  intro n
  induction n with
  | zero => exact ⟨fun h => absurd (show (0#1 : BitVec 1) = 1#1 from h) (by decide), fun ⟨g, hg, _⟩ => absurd hg (by omega)⟩
  | succ n ih =>
    refine (ori_iff _ _).trans ((or_congr ih Iff.rfl).trans ⟨?_, ?_⟩)
    · rintro (⟨g, hg, h⟩ | h)
      · exact ⟨g, by omega, h⟩
      · exact ⟨n, by omega, h⟩
    · rintro ⟨g, hg, h⟩
      by_cases q : g = n
      · exact .inr (q ▸ h)
      · exact .inl ⟨g, by omega, h⟩

theorem valid_apply (L : BitVec 32) (w : Fin 8) (s : Fin 512) : valid L (ix2 w s) = validWord L (word w.val) (word s.val) := by
  rw [← ofNat_eq_word w.val, ← ofNat_eq_word s.val]
  pointwise [valid, w8, p8]
  rfl

theorem goldHit_apply (L S W : BitVec 32) (w : Fin 8) (s : Fin 512) : goldHit L S W (ix2 w s) = hitWord L S W (word w.val) (word s.val) := by
  rw [← ofNat_eq_word w.val, ← ofNat_eq_word s.val]
  pointwise [goldHit, spanEnd, w8, p8]
  rfl

/-- The mask of an entry's negative spans. -/
theorem negMask_tile (d : Data) (b : Fin 4) (S W : ℕ → BitVec 32) (hS : ∀ g : Fin 8, S g.val = word (d.start b g).val)
    (hW : ∀ g : Fin 8, W g.val = word (d.width b g).val) : IsTile (negMask (word (d.len b)) S W) (d.neg b) := by
  intro w s
  refine (indicator_apply _ w s).trans (congrArg _ (d.bit_neg b w s ?_))
  refine (andi_iff _ _).trans (and_congr ?_ ((not_iff _).trans (not_congr ((isGold_iff _ _ _ _ _).trans ?_))))
  · rw [valid_apply]
  · refine ⟨fun ⟨g, hg, h⟩ => ⟨⟨g, hg⟩, ?_⟩, fun ⟨g, h⟩ => ⟨g.val, g.isLt, ?_⟩⟩
    · rw [goldHit_apply, show S g = word (d.start b ⟨g, hg⟩).val from hS ⟨g, hg⟩,
        show W g = word (d.width b ⟨g, hg⟩).val from hW ⟨g, hg⟩] at h
      exact h
    · rw [goldHit_apply, hS, hW]
      exact h

end Cert.KernelIdeal.Batch

end
-- ==== Proof.KernelProj.lean ====
/-
  The kernel's stored values, over arguments that hold the problem's numbers: the tiles of scores and the two losses.
-/
module

public import proofs.«01_k».proof.Proof.KernelLoss

@[expose] public section

set_option maxRecDepth 16384

noncomputable section

namespace Cert.KernelIdeal.Batch

open Idealize.ShloMosaic Idealize.ShloMosaic.TcCoe
open Cert.KernelIdeal.Gen Cert.Span

variable {X0 : Vec Ideal S4x512x256 .f32} {X1 : Vec Ideal S4 .i32} {X2 : Vec Ideal S4x8x2 .i32} {X3 X4 : Vec Ideal S256x1 .f32}
  {X5 : Vec Ideal S256x64 .f32} {X6 : Vec Ideal S64x1 .f32} {X7 : Vec Ideal S1 .f32} {X8 : Vec Ideal S256x2 .f32} {X9 : Vec Ideal S2 .f32}

/-- The kernel's blocks hold the problem's arguments. -/
structure Holds (d : Data) (X0 : Vec Ideal S4x512x256 .f32) (X1 : Vec Ideal S4 .i32) (X2 : Vec Ideal S4x8x2 .i32)
    (X3 X4 : Vec Ideal S256x1 .f32) (X5 : Vec Ideal S256x64 .f32) (X6 : Vec Ideal S64x1 .f32) (X7 : Vec Ideal S1 .f32)
    (X8 : Vec Ideal S256x2 .f32) (X9 : Vec Ideal S2 .f32) : Prop where
  h : ∀ b s k, X0 (ix3 b s k) = (d.h b s k : EReal)
  len : ∀ b, X1 (ix1 b) = word (d.len b)
  golden : ∀ b g i, X2 (ix3 b g i) = d.golden b g i
  q : ∀ k, X3 (ix2 k 0) = (d.q k : EReal)
  tw : ∀ k, X4 (ix2 k 0) = (d.tw k : EReal)
  W1 : ∀ k j, X5 (ix2 k j) = (d.W1 k j : EReal)
  W2 : ∀ j, X6 (ix2 j 0) = (d.W2 j : EReal)
  b2 : X7 (ix1 0) = (d.b2 : EReal)
  Ws : ∀ k c, X8 (ix2 k c) = (d.Ws k c : EReal)
  bs : ∀ c, X9 (ix1 c) = (d.bs c : EReal)

variable {d : Data}

/-- The stacked projections, one column of weights after another. -/
theorem proj_apply (H : Holds d X0 X1 X2 X3 X4 X5 X6 X7 X8 X9) (i : Fin 67) (b : Fin 4) (s : Fin 512) (j : Fin 2048)
    (hj : j.val = 512 * (b.val % 4) + s.val) :
    proj X0 X3 X4 X5 X8 (ix2 i j) = ((∑ k, (if h : i.val < 1 then d.q k else if h : i.val - 1 < 2 then d.Ws k ⟨i.val - 1, h⟩
      else d.tw k * d.W1 k ⟨i.val - 1 - 2, by omega⟩) * d.h b s k : ℝ) : EReal) := by
  pointwise [proj]
  rw [← coe_sum]
  refine Finset.sum_congr rfl fun k _ => ?_
  have e : (ix3 (⟨j.val / 512, by omega⟩ : Fin 4) (⟨j.val % 512, by omega⟩ : Fin 512) k : S4x512x256.Idx) = ix3 b s k := by
    congr 1 <;> exact Fin.ext (by have := b.isLt; have := s.isLt; simp only; omega)
  rw [e, H.h, ← mul_real]
  congr 1
  split
  · exact H.q k
  · split
    · exact H.Ws k _
    · rw [H.tw, H.W1, mul_real]

theorem e_row (H : Holds d X0 X1 X2 X3 X4 X5 X6 X7 X8 X9) (b : Fin 4) : IsRow (entry (eAll X0 X3 X4 X5 X8) b.val) (d.e b) := by
  intro s
  pointwise [entry, eAll]
  rw [proj_apply H _ b s _ rfl]
  refine congrArg _ (Finset.sum_congr rfl fun k _ => ?_)
  rw [dif_pos (by decide)]
  ring

theorem y0_row (H : Holds d X0 X1 X2 X3 X4 X5 X6 X7 X8 X9) (b : Fin 4) : IsRow (entry (y0All X0 X3 X4 X5 X8) b.val) (d.y 0 b) := by
  intro s
  pointwise [entry, y0All]
  rw [proj_apply H _ b s _ rfl]
  refine congrArg _ (Finset.sum_congr rfl fun k _ => ?_)
  rw [dif_neg (by decide), dif_pos (by decide), mul_comm]
  rfl

theorem y1_row (H : Holds d X0 X1 X2 X3 X4 X5 X6 X7 X8 X9) (b : Fin 4) : IsRow (entry (y1All X0 X3 X4 X5 X8) b.val) (d.y 1 b) := by
  intro s
  pointwise [entry, y1All]
  rw [proj_apply H _ b s _ rfl]
  refine congrArg _ (Finset.sum_congr rfl fun k _ => ?_)
  rw [dif_neg (by decide), dif_pos (by decide), mul_comm]
  rfl

theorem u_row (H : Holds d X0 X1 X2 X3 X4 X5 X6 X7 X8 X9) (b : Fin 4) : IsRow (entry (uAll X0 X3 X4 X5 X6 X8) b.val) (d.u b) := by
  intro s
  pointwise [entry, uAll]
  rw [Data.u, ← coe_sum]
  refine Finset.sum_congr rfl fun j _ => ?_
  rw [proj_apply H _ b s _ rfl, H.W2, ← EReal.coe_zero, max_real, mul_real, mul_comm]
  refine congrArg (fun x => ((max x 0 * d.W2 j : ℝ) : EReal)) (Finset.sum_congr rfl fun k _ => ?_)
  rw [dif_neg (by simp only; omega), dif_neg (by simp only; omega)]
  have e : (⟨3 + j.val - 1 - 2, by omega⟩ : Fin 64) = j := Fin.ext (by simp only; omega)
  rw [e]
  ring

theorem len_apply (H : Holds d X0 X1 X2 X3 X4 X5 X6 X7 X8 X9) (b : Fin 4) : len X1 b.val = word (d.len b) := by
  pointwise [len]
  rw [show (⟨b.val % 4, by omega⟩ : Fin 4) = b from Fin.ext (by simp only; omega)]
  exact H.len b

theorem golden_apply (H : Holds d X0 X1 X2 X3 X4 X5 X6 X7 X8 X9) (b : Fin 4) (g : Fin 8) (i : Fin 2) :
    golden X2 b.val g.val i.val = d.golden b g i := by
  pointwise [golden]
  rw [show (⟨b.val % 4, by omega⟩ : Fin 4) = b from Fin.ext (by simp only; omega),
    show (⟨g.val % 8, by omega⟩ : Fin 8) = g from Fin.ext (by simp only; omega),
    show (⟨i.val % 2, by omega⟩ : Fin 2) = i from Fin.ext (by simp only; omega)]
  exact H.golden b g i

theorem b2_apply (H : Holds d X0 X1 X2 X3 X4 X5 X6 X7 X8 X9) : b2w X7 = (d.b2 : EReal) := by
  pointwise [b2w]
  exact H.b2

theorem bs0_apply (H : Holds d X0 X1 X2 X3 X4 X5 X6 X7 X8 X9) : bs0w X9 = (d.bs 0 : EReal) := by
  pointwise [bs0w]
  exact H.bs 0

theorem bs1_apply (H : Holds d X0 X1 X2 X3 X4 X5 X6 X7 X8 X9) : bs1w X9 = (d.bs 1 : EReal) := by
  pointwise [bs1w]
  exact H.bs 1

/-- An entry's scores. -/
theorem s0_tile (H : Holds d X0 X1 X2 X3 X4 X5 X6 X7 X8 X9) (b : Fin 4) : IsTile (s0 X0 X1 X3 X4 X5 X6 X7 X8 X9 b.val) (d.score 0 b) := by
  rw [s0, len_apply H]
  exact chan_tile (e_row H b) (u_row H b) (y0_row H b) (b2_apply H) (bs0_apply H) (d.len_le b)

theorem s1_tile (H : Holds d X0 X1 X2 X3 X4 X5 X6 X7 X8 X9) (b : Fin 4) : IsTile (s1 X0 X1 X3 X4 X5 X6 X7 X8 X9 b.val) (d.score 1 b) := by
  rw [s1, len_apply H]
  exact chan_tile (e_row H b) (u_row H b) (y1_row H b) (b2_apply H) (bs1_apply H) (d.len_le b)

theorem tileAt_apply (H : Holds d X0 X1 X2 X3 X4 X5 X6 X7 X8 X9) (b : Fin 4) (s : Fin 512) (k : Fin 16) :
    tileAt X0 X1 X3 X4 X5 X6 X7 X8 X9 b.val (ix3 0 s k)
      = ((if k.val % 2 = 0 then d.score 0 b ⟨k.val / 2, by omega⟩ s else d.score 1 b ⟨k.val / 2, by omega⟩ s : ℝ) : EReal) :=
  tile_apply (s0_tile H b) (s1_tile H b) s k

/-- The golden spans' words brought into range. -/
theorem starts_apply (H : Holds d X0 X1 X2 X3 X4 X5 X6 X7 X8 X9) (b : Fin 4) (g : Fin 8) :
    starts X1 X2 b.val g.val = word (d.start b g).val := by
  rw [starts, len_apply H, show golden X2 b.val g.val 0 = d.golden b g 0 from golden_apply H b g 0, ← d.start_word .scalar,
    ← d.divisor_word]
  rfl

theorem widths_apply (H : Holds d X0 X1 X2 X3 X4 X5 X6 X7 X8 X9) (b : Fin 4) (g : Fin 8) :
    widths X2 b.val g.val = word (d.width b g).val := by
  rw [widths, show golden X2 b.val g.val 1 = d.golden b g 1 from golden_apply H b g 1, ← d.width_word .scalar]
  rfl

/-- The running sums after all the entries. -/
theorem all_apply {f : ℕ → FVec Ideal S1x1 .f32} (t : Fin 4 → ℝ) (h0 : f 0 (ix2 0 0) = 0)
    (h : ∀ (b : Fin 4) (a : ℝ), f b.val (ix2 0 0) = (a : EReal) → f (b.val + 1) (ix2 0 0) = ((a + t b : ℝ) : EReal)) :
    f 4 (ix2 0 0) = ((∑ b, t b : ℝ) : EReal) := by
  rw [Fin.sum_univ_four, ← zero_add (t 0)]
  exact h 3 _ (h 2 _ (h 1 _ (h 0 0 h0)))

theorem goldAll_apply (H : Holds d X0 X1 X2 X3 X4 X5 X6 X7 X8 X9) : goldAll X0 X1 X2 X3 X4 X5 X6 X7 X8 X9 4 (ix2 0 0)
    = ((∑ b, ∑ g, (d.score 1 b (d.width b g) (d.start b g) - d.lse b (d.width b g) (d.start b g)) : ℝ) : EReal) := by
  refine all_apply _ ?_ fun b a h => ?_
  · pointwise [goldAll]
  · exact goldSum_apply h (s0_tile H b) (s1_tile H b) _ _ (d.start b) (d.width b) (starts_apply H b) (widths_apply H b)

theorem mask_tile (H : Holds d X0 X1 X2 X3 X4 X5 X6 X7 X8 X9) (b : Fin 4) :
    IsTile (negMask (F := Ideal) (len X1 b.val) (starts X1 X2 b.val) (widths X2 b.val)) (d.neg b) := by
  rw [len_apply H]
  exact negMask_tile d b _ _ (starts_apply H b) (widths_apply H b)

theorem negAll_apply (H : Holds d X0 X1 X2 X3 X4 X5 X6 X7 X8 X9) : negAll X0 X1 X2 X3 X4 X5 X6 X7 X8 X9 4 (ix2 0 0)
    = ((∑ b, ∑ w, ∑ s, d.neg b w s * (d.lse b w s - d.score 0 b w s) : ℝ) : EReal) := by
  refine all_apply _ ?_ fun b a h => ?_
  · pointwise [negAll]
  · rw [← add_real]
    exact congrArg₂ (· + ·) h (total_apply (mulf_tile (mask_tile H b) (subf_tile (lse_tile (s0_tile H b) (s1_tile H b)) (s0_tile H b))))

theorem cntAll_apply (H : Holds d X0 X1 X2 X3 X4 X5 X6 X7 X8 X9) :
    cntAll (F := Ideal) X1 X2 4 (ix2 0 0) = ((∑ b, ∑ w, ∑ s, d.neg b w s : ℝ) : EReal) := by
  refine all_apply _ ?_ fun b a h => ?_
  · pointwise [cntAll]
  · rw [← add_real]
    exact congrArg₂ (· + ·) h (total_apply (mask_tile H b))

/-- The two losses as stored. -/
theorem goldOut_apply (H : Holds d X0 X1 X2 X3 X4 X5 X6 X7 X8 X9) :
    goldOut X0 X1 X2 X3 X4 X5 X6 X7 X8 X9 (ix2 0 0) = (d.goldLoss : EReal) := by
  pointwise [goldOut]
  rw [goldAll_apply H, ofBits_32nd, ← EReal.coe_zero, sub_real, mul_real, Data.goldLoss]
  congr 1
  ring

theorem negOut_apply (H : Holds d X0 X1 X2 X3 X4 X5 X6 X7 X8 X9) :
    negOut X0 X1 X2 X3 X4 X5 X6 X7 X8 X9 (ix2 0 0) = (d.negLoss : EReal) := by
  pointwise [negOut]
  rw [negAll_apply H, cntAll_apply H, ← EReal.coe_one, max_real, div_real _ _ (by positivity), Data.negLoss]

end Cert.KernelIdeal.Batch

end
-- ==== Proof.KernelValue.lean ====
/-
  What the kernel's program leaves: its three results after the run, as functions of its arguments.
-/
module

public import proofs.«01_k».proof.Proof.Stores
public import proofs.«01_k».proof.Proof.KernelProj
public import Idealize.ShloMosaic.Lib.Pipeline.ValueKit
public import Idealize.ShloMosaic.Lib.Claim

@[expose] public section

set_option maxRecDepth 16384

noncomputable section

namespace Cert.KernelIdeal.Batch

open Idealize.ShloMosaic Idealize.ShloMosaic.TcCoe
open Cert.KernelIdeal.Gen Cert.Span

variable (m : (ℓ : Loc nD τ sig) → Buf (Elt Ideal) ℓ) (ρ : Dev nD → PrngReg) (c : Dev nD)

/-- Every window's block is the whole array: its index at the one point is zero. -/
theorem idx : ∀ t : Fin cfg0.N, (win0_0.index t = ![0, 0, 0] ∧ win0_1.index t = ![0] ∧ win0_2.index t = ![0, 0, 0]
      ∧ win0_3.index t = ![0, 0] ∧ win0_4.index t = ![0, 0])
    ∧ (win0_5.index t = ![0, 0] ∧ win0_6.index t = ![0, 0] ∧ win0_7.index t = ![0] ∧ win0_8.index t = ![0, 0] ∧ win0_9.index t = ![0])
    ∧ win0_10.index t = ![0, 0, 0] ∧ win0_11.index t = ![0, 0] ∧ win0_12.index t = ![0, 0] :=
  (by decide +kernel : ∀ t : Fin grid0.N, _)

theorem iblk0 : iblk m c 0 t0_0 = m ((c : Thread nD τ).loc main_arg0) := by blk_ext! [iblk, V, idx t0_0]
theorem iblk1 : iblk m c 1 t0_0 = m ((c : Thread nD τ).loc main_arg1) := by blk_ext! [iblk, V, idx t0_0]
theorem iblk2 : iblk m c 2 t0_0 = m ((c : Thread nD τ).loc main_arg2) := by blk_ext! [iblk, V, idx t0_0]
theorem iblk5 : iblk m c 5 t0_0 = m ((c : Thread nD τ).loc main_arg5) := by blk_ext! [iblk, V, idx t0_0]
theorem iblk6 : iblk m c 6 t0_0 = m ((c : Thread nD τ).loc main_arg7) := by blk_ext! [iblk, V, idx t0_0]
theorem iblk7 : iblk m c 7 t0_0 = m ((c : Thread nD τ).loc main_arg8) := by blk_ext! [iblk, V, idx t0_0]
theorem iblk8 : iblk m c 8 t0_0 = m ((c : Thread nD τ).loc main_arg9) := by blk_ext! [iblk, V, idx t0_0]
theorem iblk9 : iblk m c 9 t0_0 = m ((c : Thread nD τ).loc main_arg10) := by blk_ext! [iblk, V, idx t0_0]

/-- The query and the term weights reach the kernel as columns. -/
theorem entry3 : V m c main_v0 = shapeCast S256x1 (m ((c : Thread nD τ).loc main_arg3)) shapeCasts_S256_S256x1 := rfl
theorem entry4 : V m c main_v1 = shapeCast S256x1 (m ((c : Thread nD τ).loc main_arg4)) shapeCasts_S256_S256x1 := rfl
theorem column_apply (x : FVec Ideal S256 .f32) (k : Fin 256) : shapeCast S256x1 x shapeCasts_S256_S256x1 (ix2 k 0) = x (ix1 k) := by
  pointwise
theorem iblk3 : iblk m c 3 t0_0 = V m c main_v0 := by blk_ext! [iblk, idx t0_0]
theorem iblk4 : iblk m c 4 t0_0 = V m c main_v1 := by blk_ext! [iblk, idx t0_0]

/-- The whole array of scores, tile by tile. -/
def scores (X0 : Vec Ideal S4x512x256 .f32) (X1 : Vec Ideal S4 .i32) (X3 X4 : Vec Ideal S256x1 .f32) (X5 : Vec Ideal S256x64 .f32)
    (X6 : Vec Ideal S64x1 .f32) (X7 : Vec Ideal S1 .f32) (X8 : Vec Ideal S256x2 .f32) (X9 : Vec Ideal S2 .f32) : Vec Ideal S4x512x16 .f32 :=
  fun y => tileAt X0 X1 X3 X4 X5 X6 X7 X8 X9 (y 0).val (ix3 0 (y 1) (y 2))

section Stored

variable (X0 : Vec Ideal S4x512x256 .f32) (X1 : Vec Ideal S4 .i32) (X3 X4 : Vec Ideal S256x1 .f32) (X5 : Vec Ideal S256x64 .f32)
    (X6 : Vec Ideal S64x1 .f32) (X7 : Vec Ideal S1 .f32) (X8 : Vec Ideal S256x2 .f32) (X9 : Vec Ideal S2 .f32)

/-- The store at batch entry `b` holds that entry's tile of the whole array. -/
theorem scores_piece (b : ℕ) (inb : ∀ a, (![b, 0, 0] : Fin 3 → ℕ) a + S1x512x16.size a ≤ S4x512x16.size a) (x : S1x512x16.Idx) :
    tileAt X0 X1 X3 X4 X5 X6 X7 X8 X9 b x
      = scores X0 X1 X3 X4 X5 X6 X7 X8 X9 ((Rect.unit (s := S4x512x16) ![b, 0, 0] S1x512x16.size inb).emb x) := by
  unfold scores
  have h : (((Rect.unit (s := S4x512x16) ![b, 0, 0] S1x512x16.size inb).emb x) 0).val = b := by
    refine (Rect.idx_unit_val ..).trans ?_
    have : (x 0).val < 1 := (x 0).isLt
    show b + (x 0).val = b
    omega
  rw [h]
  refine congrArg _ (funext fun a => Fin.ext ?_)
  match a with
  | ⟨0, _⟩ => have : (x 0).val < 1 := (x 0).isLt; show (x 0).val = 0; omega
  | ⟨1, _⟩ => exact (Rect.idx_unit_val ..).trans (Nat.zero_add _) |>.symm
  | ⟨2, _⟩ => exact (Rect.idx_unit_val ..).trans (Nat.zero_add _) |>.symm

theorem tiles_pieces : ∀ p ∈ tiles X0 X1 X3 X4 X5 X6 X7 X8 X9, ∀ x : p.1.shape.Idx, p.2 x = scores X0 X1 X3 X4 X5 X6 X7 X8 X9 (p.1.emb x) := by
  unfold tiles
  simp only [List.forall_mem_cons, List.not_mem_nil, false_imp_iff, implies_true, and_true]
  exact ⟨scores_piece X0 X1 X3 X4 X5 X6 X7 X8 X9 3 _, scores_piece X0 X1 X3 X4 X5 X6 X7 X8 X9 2 _,
    scores_piece X0 X1 X3 X4 X5 X6 X7 X8 X9 1 _, scores_piece X0 X1 X3 X4 X5 X6 X7 X8 X9 0 _⟩

end Stored

/-- The array of scores when the region ends. -/
theorem arr_scores : (dats m 0 c).arrAt 10 cfg0.N
    = scores (iblk m c 0 t0_0) (iblk m c 1 t0_0) (iblk m c 3 t0_0) (iblk m c 4 t0_0) (iblk m c 5 t0_0) (iblk m c 6 t0_0)
        (iblk m c 7 t0_0) (iblk m c 8 t0_0) (iblk m c 9 t0_0) := by
  refine (dats m 0 c).arrAt_eq_of_after_last 10 t0_0 (by decide +kernel) _ fun j => ?_
  blk_simp
  rw [after0_10]
  unfold outsAt0 out0_A_10
  dsimp only
  rw [View.read_writes_eq_canon _ _ _ (cover0_A_10 c _ _ _ _ _ _ _ _ _ _ _ _ _ _ _ _ _ _ _ _ _ _ _ _ _ _ _ _ _ _ _ _ _ _ _ _)]
  refine View.canon_apply_of_pieces _ _ ?_ j (cover0_A_10 c _ _ _ _ _ _ _ _ _ _ _ _ _ _ _ _ _ _ _ _ _ _ _ _ _ _ _ _ _ _ _ _ _ _ _ _ j)
  rw [kernelRun_tiles]
  exact tiles_pieces _ _ _ _ _ _ _ _ _

/-- The loss over the golden spans when the region ends. -/
theorem arr_gold : (dats m 0 c).arrAt 11 cfg0.N
    = goldOut (iblk m c 0 t0_0) (iblk m c 1 t0_0) (iblk m c 2 t0_0) (iblk m c 3 t0_0) (iblk m c 4 t0_0) (iblk m c 5 t0_0) (iblk m c 6 t0_0)
        (iblk m c 7 t0_0) (iblk m c 8 t0_0) (iblk m c 9 t0_0) := by
  refine (dats m 0 c).arrAt_eq_of_after_last 11 t0_0 (by decide +kernel) _ fun j => ?_
  blk_simp
  rw [after0_11]
  unfold outsAt0 out0_A_11
  dsimp only
  rw [View.read_writes_eq_canon _ _ _ (cover0_A_11 c _ _ _ _ _ _ _ _ _ _ _ _ _ _ _ _ _ _ _ _ _ _ _ _ _ _ _ _ _ _ _ _ _ _ _ _), kernelRun_gold]
  exact congrFun (View.canon_unit_zero (by decide) _ _) j

/-- The loss over the other spans when the region ends. -/
theorem arr_neg : (dats m 0 c).arrAt 12 cfg0.N
    = negOut (iblk m c 0 t0_0) (iblk m c 1 t0_0) (iblk m c 2 t0_0) (iblk m c 3 t0_0) (iblk m c 4 t0_0) (iblk m c 5 t0_0) (iblk m c 6 t0_0)
        (iblk m c 7 t0_0) (iblk m c 8 t0_0) (iblk m c 9 t0_0) := by
  refine (dats m 0 c).arrAt_eq_of_after_last 12 t0_0 (by decide +kernel) _ fun j => ?_
  blk_simp
  rw [after0_12]
  unfold outsAt0 out0_A_12
  dsimp only
  rw [View.read_writes_eq_canon _ _ _ (cover0_A_12 c _ _ _ _ _ _ _ _ _ _ _ _ _ _ _ _ _ _ _ _ _ _ _ _ _ _ _ _ _ _ _ _ _ _ _ _), kernelRun_neg]
  exact congrFun (View.canon_unit_zero (by decide) _ _) j

section Values

variable {m c} {d : Data}

/-- The results at a problem the arguments hold. -/
theorem gold_value (H : Holds d (iblk m c 0 t0_0) (iblk m c 1 t0_0) (iblk m c 2 t0_0) (iblk m c 3 t0_0) (iblk m c 4 t0_0)
    (iblk m c 5 t0_0) (iblk m c 6 t0_0) (iblk m c 7 t0_0) (iblk m c 8 t0_0) (iblk m c 9 t0_0)) :
    shapeCast S_ ((dats m 0 c).arrAt 11 cfg0.N) shapeCasts_S1x1_S_ ix0 = (d.goldLoss : EReal) := by
  rw [arr_gold]
  pointwise
  exact goldOut_apply H

theorem neg_value (H : Holds d (iblk m c 0 t0_0) (iblk m c 1 t0_0) (iblk m c 2 t0_0) (iblk m c 3 t0_0) (iblk m c 4 t0_0)
    (iblk m c 5 t0_0) (iblk m c 6 t0_0) (iblk m c 7 t0_0) (iblk m c 8 t0_0) (iblk m c 9 t0_0)) :
    shapeCast S_ ((dats m 0 c).arrAt 12 cfg0.N) shapeCasts_S1x1_S_ ix0 = (d.negLoss : EReal) := by
  rw [arr_neg]
  pointwise
  exact negOut_apply H

theorem scores_value (H : Holds d (iblk m c 0 t0_0) (iblk m c 1 t0_0) (iblk m c 2 t0_0) (iblk m c 3 t0_0) (iblk m c 4 t0_0)
    (iblk m c 5 t0_0) (iblk m c 6 t0_0) (iblk m c 7 t0_0) (iblk m c 8 t0_0) (iblk m c 9 t0_0)) (b : Fin 4) (s : Fin 512) (w : Fin 8) (cl : Fin 2) :
    shapeCast S4x512x8x2 ((dats m 0 c).arrAt 10 cfg0.N) shapeCasts_S4x512x16_S4x512x8x2 (ix4 b s w cl) = (d.score cl b w s : EReal) := by
  rw [arr_scores]
  have hr : ∀ x : FVec Ideal S4x512x16 .f32, shapeCast S4x512x8x2 x shapeCasts_S4x512x16_S4x512x8x2 (ix4 b s w cl)
      = x (ix3 b s ⟨w.val * 2 + cl.val, by omega⟩) := fun x => by
    pointwise
  rw [hr]
  refine (tileAt_apply H b s ⟨w.val * 2 + cl.val, by omega⟩).trans ?_
  have hw : (⟨(w.val * 2 + cl.val) / 2, by omega⟩ : Fin 8) = w := Fin.ext (by show (w.val * 2 + cl.val) / 2 = w.val; omega)
  have hc : (w.val * 2 + cl.val) % 2 = cl.val := by omega
  simp only [hw, hc]
  match cl with
  | ⟨0, _⟩ => exact congrArg _ (if_pos rfl)
  | ⟨1, _⟩ => exact congrArg _ (if_neg Nat.one_ne_zero)

end Values

section Run

variable {m ρ} {r : PUnit × MemSt nD τ sig (Elt Ideal)}
  (h : Pipeline.FramePost cfgs (dats m) 0 (Pipeline.afterTail₀ cfgs (dats m) 0 (V0 m) [hostOps1]) r)
include h

/-- The three results: each the region's array, reshaped. -/
theorem out_scores : r.2.mem ((c : Thread nD τ).loc main_v3)
    = shapeCast S4x512x8x2 ((dats m 0 c).arrAt 10 cfg0.N) shapeCasts_S4x512x16_S4x512x8x2 := by
  refine ((h c).2 main_v3 (Pipeline.mem_restRefs_of main_v3 (by decide) (by decide))).trans ?_
  unfold Pipeline.afterTail₀
  after_results
  exact congrArg (fun x => shapeCast S4x512x8x2 x shapeCasts_S4x512x16_S4x512x8x2)
    (Pipeline.withArrays_arr (cfgs 0).spec launch0.win.arr_inj c (V0 m c) (fun w => (dats m 0 c).arrAt w cfg0.N) 10)

theorem out_gold : r.2.mem ((c : Thread nD τ).loc main_v4)
    = shapeCast S_ ((dats m 0 c).arrAt 11 cfg0.N) shapeCasts_S1x1_S_ := by
  refine ((h c).2 main_v4 (Pipeline.mem_restRefs_of main_v4 (by decide) (by decide))).trans ?_
  unfold Pipeline.afterTail₀
  after_results
  exact congrArg (fun x => shapeCast S_ x shapeCasts_S1x1_S_)
    (Pipeline.withArrays_arr (cfgs 0).spec launch0.win.arr_inj c (V0 m c) (fun w => (dats m 0 c).arrAt w cfg0.N) 11)

theorem out_neg : r.2.mem ((c : Thread nD τ).loc main_v5)
    = shapeCast S_ ((dats m 0 c).arrAt 12 cfg0.N) shapeCasts_S1x1_S_ := by
  refine ((h c).2 main_v5 (Pipeline.mem_restRefs_of main_v5 (by decide) (by decide))).trans ?_
  unfold Pipeline.afterTail₀
  after_results
  exact congrArg (fun x => shapeCast S_ x shapeCasts_S1x1_S_)
    (Pipeline.withArrays_arr (cfgs 0).spec launch0.win.arr_inj c (V0 m c) (fun w => (dats m 0 c).arrAt w cfg0.N) 12)

end Run

end Cert.KernelIdeal.Batch

end
-- ==== Proof.RefGather.lean ====
/-
  The reference's two gathers at an index whose start indices are in range: the operand there.
-/
module

public import proofs.«01_k».proof.Proof.Words
public import proofs.«01_k».proof.Proof.Gen.ReferenceIdeal
public import Idealize.ShloMosaic.Lib.Pointwise
public import Idealize.ShloMosaic.Lib.Pointwise.IndexVar

@[expose] public section

set_option maxRecDepth 16384

noncomputable section

namespace Cert.ReferenceIdeal.Read

open Idealize.ShloMosaic Idealize.ShloMosaic.TcCoe
open Cert.ReferenceIdeal.Gen Cert.Span

/-- A word in range, read signed and clamped. -/
theorem clamp_word {n : ℕ} (k : ℕ) (hk : k ≤ n) (hn : n < 2 ^ 31) : min (word k).toInt.toNat n = k := by
  rw [word_toInt k (by omega)]
  omega

/-- The tokens gathered for each span. -/
theorem gather_tokens (x : FVec Ideal S4x512x256 .f32) (i : IVec S512x8x1 32) (b : Fin 4) (s : Fin 512) (w : Fin 8) (k : Fin 256)
    (n : Fin 512) (h : i (ix3 s w 0) = word n.val) :
    Host.gather gather_S4x512x256_S512x8x1_S4x512x8x256_03_1_n_n_1_2_41256 x i (ix4 b s w k) = x (ix3 b n k) := by
  refine congrArg x (funext fun a => Fin.ext ?_)
  match a with
  | ⟨0, _⟩ => show 0 + 0 + b.val = b.val; omega
  | ⟨1, _⟩ =>
    have e : ∀ j : S512x8x1.Idx, j = ix3 s w 0 → min (i j).toInt.toNat 511 = n.val := by
      rintro j rfl
      rw [h, clamp_word n.val (by omega) (by decide)]
    refine e _ (funext fun c => ?_)
    match c with
    | ⟨0, _⟩ => rfl
    | ⟨1, _⟩ => rfl
    | ⟨2, _⟩ => rfl
  | ⟨2, _⟩ => show 0 + 0 + k.val = k.val; omega

/-- The scores gathered for each golden span. -/
theorem gather_golden (x : FVec Ideal S4x512x8x2 .f32) (i : IVec S4x8x3 32) (b : Fin 4) (g : Fin 8) (c : Fin 2) (B : Fin 4) (s : Fin 512)
    (w : Fin 8) (h0 : i (ix3 b g 0) = word B.val) (h1 : i (ix3 b g 1) = word s.val) (h2 : i (ix3 b g 2) = word w.val) :
    Host.gather gather_S4x512x8x2_S4x8x3_S4x8x2_2_012_n_n_012_2_1112 x i (ix3 b g c) = x (ix4 B s w c) := by
  have e : ∀ {n k : ℕ} (z : Fin 3) (j : S4x8x3.Idx), i (ix3 b g z) = word k → k ≤ n → n < 2 ^ 31 → j = ix3 b g z →
      min (i j).toInt.toNat n = k := by
    rintro n k z j h hk hn rfl
    rw [h, clamp_word k hk hn]
  have q : ∀ {j : S4x8x3.Idx} (z : Fin 3), j 0 = b → j 1 = g → j 2 = z → j = ix3 b g z := by
    intro j z r0 r1 r2
    funext a
    match a with
    | ⟨0, _⟩ => exact r0
    | ⟨1, _⟩ => exact r1
    | ⟨2, _⟩ => exact r2
  refine congrArg x (funext fun a => Fin.ext ?_)
  match a with
  | ⟨0, _⟩ => exact e (n := 3) 0 _ h0 (Nat.le_of_lt_succ B.isLt) (by decide) (q 0 rfl rfl rfl)
  | ⟨1, _⟩ => exact e (n := 511) 1 _ h1 (Nat.le_of_lt_succ s.isLt) (by decide) (q 1 rfl rfl rfl)
  | ⟨2, _⟩ => exact e (n := 7) 2 _ h2 (Nat.le_of_lt_succ w.isLt) (by decide) (q 2 rfl rfl rfl)
  | ⟨3, _⟩ => show 0 + 0 + c.val = c.val; omega

end Cert.ReferenceIdeal.Read

end
-- ==== Proof.RefScore.lean ====
/-
  The reference's scores at an index, over arguments that hold the problem's numbers.
-/
module

public import proofs.«01_k».proof.Proof.RefGather
public import proofs.«01_k».proof.Proof.Problem
public import proofs.«01_k».proof.Proof.Gen.ReferenceIdeal.Read

@[expose] public section

set_option maxRecDepth 16384

noncomputable section

namespace Cert.ReferenceIdeal.Read

open Idealize.ShloMosaic Idealize.ShloMosaic.TcCoe
open Cert.ReferenceIdeal.Gen Cert.Span

variable {x0 : Vec Ideal S4x512x256 .f32} {x1 : Vec Ideal S4 .i32} {x2 : Vec Ideal S4x8x2 .i32} {x3 x4 : Vec Ideal S256 .f32}
  {x5 : Vec Ideal S256x64 .f32} {x6 : Vec Ideal S64 .f32} {x7 : Vec Ideal S64x1 .f32} {x8 : Vec Ideal S1 .f32}
  {x9 : Vec Ideal S256x2 .f32} {x10 : Vec Ideal S2 .f32}

/-- The reference's arguments hold the problem's; the bias of the hidden layer is zero. -/
structure Holds (d : Data) (x0 : Vec Ideal S4x512x256 .f32) (x1 : Vec Ideal S4 .i32) (x2 : Vec Ideal S4x8x2 .i32)
    (x3 x4 : Vec Ideal S256 .f32) (x5 : Vec Ideal S256x64 .f32) (x6 : Vec Ideal S64 .f32) (x7 : Vec Ideal S64x1 .f32)
    (x8 : Vec Ideal S1 .f32) (x9 : Vec Ideal S256x2 .f32) (x10 : Vec Ideal S2 .f32) : Prop where
  h : ∀ b s k, x0 (ix3 b s k) = (d.h b s k : EReal)
  len : ∀ b, x1 (ix1 b) = word (d.len b)
  golden : ∀ b g i, x2 (ix3 b g i) = d.golden b g i
  q : ∀ k, x3 (ix1 k) = (d.q k : EReal)
  tw : ∀ k, x4 (ix1 k) = (d.tw k : EReal)
  W1 : ∀ k j, x5 (ix2 k j) = (d.W1 k j : EReal)
  b1 : ∀ j, x6 (ix1 j) = 0
  W2 : ∀ j, x7 (ix2 j 0) = (d.W2 j : EReal)
  b2 : x8 (ix1 0) = (d.b2 : EReal)
  Ws : ∀ k c, x9 (ix2 k c) = (d.Ws k c : EReal)
  bs : ∀ c, x10 (ix1 c) = (d.bs c : EReal)

variable {d : Data}

/-- The masked query logits. -/
theorem v10 (H : Holds d x0 x1 x2 x3 x4 x5 x6 x7 x8 x9 x10) (b : Fin 4) (s : Fin 512) :
    val_main_v10 (F := Ideal) x0 x1 x3 (ix2 b s) = (logit (d.e b) (d.len b) s : EReal) := by
  have hl := d.len_le b
  pointwise [val_main_v10, val_main_v5, val_main_v3, val_main_v1, val_main_v0, val_main_v4, val_main_v2, val_main_v9, val_main_v8,
    val_main_v7, val_main_v6, val_main_cst, val_main_call0_v1, val_main_call0_v0, val_main_cst_0]
  rw [H.len, ofNat_eq_word s.val, select_iff (p := s.val < d.len b) ((slt_iff _ _).trans (by
    rw [word_toInt s.val (by omega), word_toInt (d.len b) (by omega)]; omega))]
  simp only [H.h, H.q, mul_real, coe_sum]
  exact (congrArg (fun z => if s.val < d.len b then (d.e b s : EReal) else z) ofBits_low).trans (ite_real _ _ _)

/-- The query attention. -/
theorem v21 (H : Holds d x0 x1 x2 x3 x4 x5 x6 x7 x8 x9 x10) (b : Fin 4) (s : Fin 512) :
    val_main_v21 (F := Ideal) x0 x1 x3 (ix2 b s) = (attn (d.e b) (d.len b) s : EReal) := by
  obtain ⟨M, hM⟩ := fold_max_coe (logit (d.e b) (d.len b))
  pointwise [val_main_v21, val_main_v20, val_main_v19, val_main_v18, val_main_v17, val_main_v16, val_main_v15, val_main_v14,
    val_main_v13, val_main_v12, val_main_v11, val_main_cst_1, val_main_cst_2, val_main_cst_3]
  simp only [v10 H, ofBits_bot, hM, max_eq_right (bot_le : (⊥ : EReal) ≤ M), sub_real, Ideal.exp_coe, coe_sum]
  rw [div_real _ _ (sum_exp_pos _).ne', softmax_shift]
  rfl

/-- A window's tokens. -/
theorem v37 (s : Fin 512) (w : Fin 8) : val_main_v37 (F := Ideal) (ix3 s w 0) = word (tok s w).val := by
  pointwise [val_main_v37, val_main_v36, val_main_v35, val_main_v34, val_main_v33, val_main_v32, val_main_v31, val_main_v30,
    val_main_v29, val_main_v28, val_main_v27, val_main_v26, val_main_v25, val_main_v0, val_main_c, val_main_c_4, val_main_c_5,
    val_main_c_6, val_main_call1_v0, val_main_call1_v1, val_main_call1_v2, val_main_call1_v3, val_main_call1_v4]
  have e : IntOp.minsi 511#32 (IntOp.maxsi 0#32 (IntOp.addi (BitVec.ofNat 32 s.val) (BitVec.ofNat 32 w.val))) = word (tok s w).val := by
    rw [ofNat_eq_word s.val, ofNat_eq_word w.val, addi_word, show (0#32 : BitVec 32) = word 0 from rfl,
      show (511#32 : BitVec 32) = word 511 from rfl, maxsi_word _ _ (by omega) (by omega), minsi_word _ _ (by omega) (by omega)]
    refine congrArg word ?_
    show min (511 : ℤ) (max 0 (s.val + w.val)) = (min (s.val + w.val) 511 : ℕ)
    omega
  refine (select_iff (p := False) ((slt_iff _ _).trans ⟨fun h => ?_, False.elim⟩) _ _).trans ((if_neg not_false).trans e)
  have h' : ((word (tok s w).val).toInt : ℤ) < 0 := lt_of_eq_of_lt (congrArg BitVec.toInt e).symm h
  rw [word_toInt _ (by omega)] at h'
  omega

/-- The attended hidden state of a window's token. -/
theorem v38 (H : Holds d x0 x1 x2 x3 x4 x5 x6 x7 x8 x9 x10) (b : Fin 4) (s : Fin 512) (w : Fin 8) (k : Fin 256) :
    val_main_v38 (F := Ideal) x0 x1 x3 (ix4 b s w k) = ((d.h b (tok s w) k * attn (d.e b) (d.len b) (tok s w) : ℝ) : EReal) := by
  unfold val_main_v38
  rw [gather_tokens _ _ b s w k (tok s w) (v37 s w)]
  pointwise [val_main_v24, val_main_v23, val_main_v22]
  rw [v21 H, H.h, mul_real]

/-- The hidden layer's output at a window's token. -/
theorem v51 (H : Holds d x0 x1 x2 x3 x4 x5 x6 x7 x8 x9 x10) (b : Fin 4) (s : Fin 512) (w : Fin 8) :
    val_main_v51 (F := Ideal) x0 x1 x3 x4 x5 x6 x7 x8 (ix3 b s w)
      = ((attn (d.e b) (d.len b) (tok s w) * d.u b (tok s w) + d.b2 : ℝ) : EReal) := by
  pointwise [val_main_v51, val_main_v50, val_main_v49, val_main_v48, val_main_v47, val_main_v46, val_main_v45, val_main_v44,
    val_main_v43, val_main_v42, val_main_v41, val_main_v40, val_main_v39, val_main_call2_v0, val_main_call2_cst]
  have ha : 0 ≤ attn (d.e b) (d.len b) (tok s w) := div_nonneg (Real.exp_pos _).le (sum_exp_pos _).le
  simp only [v38 H, H.tw, H.W1, H.b1, H.W2, H.b2, mul_real, coe_sum, add_zero]
  simp only [← EReal.coe_zero, max_real, mul_real, coe_sum, add_real]
  refine congrArg (fun x => ((x + d.b2 : ℝ) : EReal)) ?_
  rw [Data.u, Finset.mul_sum]
  refine Finset.sum_congr rfl fun j _ => ?_
  rw [← mul_assoc, mul_max_of_nonneg _ _ ha, mul_zero, Finset.mul_sum]
  refine congrArg (fun x => max x 0 * d.W2 j) (Finset.sum_congr rfl fun k _ => ?_)
  ring

/-- The number of tokens of a span, as a word. -/
theorem v85 (H : Holds d x0 x1 x2 x3 x4 x5 x6 x7 x8 x9 x10) (b : Fin 4) (s : Fin 512) (w : Fin 8) :
    val_main_v85 (F := Ideal) x1 (ix3 b s w) = word (min (s.val + w.val : ℤ) (d.len b - 1) + 1 - s.val) := by
  have hl := d.len_le b
  pointwise [val_main_v85, val_main_v84, val_main_v83, val_main_v66, val_main_v65, val_main_v64, val_main_v63, val_main_v62,
    val_main_v61, val_main_v60, val_main_v59, val_main_v58, val_main_v57, val_main_v56, val_main_v55, val_main_v54, val_main_v53,
    val_main_v52, val_main_v0, val_main_c_7, val_main_c_8]
  rw [H.len, ofNat_eq_word s.val, ofNat_eq_word w.val, show (1#32 : BitVec 32) = word 1 from rfl, addi_word, subi_word,
    minsi_word _ _ (by omega) (by omega), addi_word, subi_word]

/-- The masked logits of a span's window. -/
theorem v92 (H : Holds d x0 x1 x2 x3 x4 x5 x6 x7 x8 x9 x10) (b : Fin 4) (s : Fin 512) (w j : Fin 8) (hs : s.val < d.len b) :
    val_main_v92 (F := Ideal) x0 x1 x3 x4 x5 x6 x7 x8 (ix4 b s w j)
      = if j.val < ntok (d.len b) w s then ((attn (d.e b) (d.len b) (tok s j) * d.u b (tok s j) + d.b2 : ℝ) : EReal) else ⊥ := by
  have hl := d.len_le b
  pointwise [val_main_v92, val_main_v91, val_main_v90, val_main_v89, val_main_v88, val_main_v87, val_main_v86, val_main_v25,
    val_main_call3_v0, val_main_call3_v1, val_main_call3_v2, val_main_cst_10]
  refine (select_iff (p := j.val < ntok (d.len b) w s) ((slt_iff _ _).trans ?_) _ _).trans ?_
  · rw [v85 H, ofNat_eq_word j.val, word_toInt j.val (by omega), word_toInt _ (by omega)]
    unfold ntok
    omega
  · rw [v51 H]
    exact congrArg (fun z => if j.val < ntok (d.len b) w s then _ else z) ofBits_bot

/-- A token's logit in the span's softmax. -/
abbrev raw (d : Data) (b : Fin 4) (t : Fin 512) : ℝ := attn (d.e b) (d.len b) t * d.u b t + d.b2

/-- The softmax of a span's window, less some number. -/
theorem v106 (H : Holds d x0 x1 x2 x3 x4 x5 x6 x7 x8 x9 x10) (b : Fin 4) (s : Fin 512) (w : Fin 8) (hs : s.val < d.len b) :
    ∃ M : ℝ, ∀ j : Fin 8, val_main_v106 (F := Ideal) x0 x1 x3 x4 x5 x6 x7 x8 (ix4 b s w j)
      = (((if j.val < ntok (d.len b) w s then Real.exp (raw d b (tok s j) - M) else 0)
          / ∑ k : Fin 8, if k.val < ntok (d.len b) w s then Real.exp (raw d b (tok s k) - M) else 0 : ℝ) : EReal) := by
  have h0 : (0 : Fin 8).val < ntok (d.len b) w s := by unfold ntok; show 0 < _; omega
  obtain ⟨M, hM⟩ := fold_max_real (fun j : Fin 8 => if j.val < ntok (d.len b) w s then ((raw d b (tok s j) : ℝ) : EReal) else ⊥) 0
    (fun k => by split; exacts [EReal.coe_ne_top _, bot_ne_top]) (by simp only [if_pos h0]; exact EReal.coe_ne_bot _)
  refine ⟨M, fun j => ?_⟩
  have hx : ∀ k : Fin 8, Ideal.exp ((if k.val < ntok (d.len b) w s then ((raw d b (tok s k) : ℝ) : EReal) else ⊥) - (M : EReal))
      = ((if k.val < ntok (d.len b) w s then Real.exp (raw d b (tok s k) - M) else 0 : ℝ) : EReal) := by
    intro k
    split
    · rw [sub_real, Ideal.exp_coe]
    · rw [EReal.bot_sub]
      rfl
  pointwise [val_main_v106, val_main_v105, val_main_v104, val_main_v103, val_main_v102, val_main_v101, val_main_v100, val_main_v99,
    val_main_v98, val_main_v97, val_main_v96, val_main_cst_12, val_main_cst_13, val_main_cst_14]
  simp only [v92 H b s w _ hs, ofBits_bot]
  rw [hM, max_eq_right (bot_le : (⊥ : EReal) ≤ M)]
  simp only [hx, coe_sum]
  exact div_real _ _ (pool_pos (fun k : Fin 8 => k.val < ntok (d.len b) w s) _ 0 h0).ne'

theorem v107 (H : Holds d x0 x1 x2 x3 x4 x5 x6 x7 x8 x9 x10) (b : Fin 4) (s : Fin 512) (w j : Fin 8) :
    val_main_v107 (F := Ideal) x0 x1 x3 x4 x5 x6 x7 x8 (ix4 b s w j)
      = if s.val < d.len b then val_main_v106 (F := Ideal) x0 x1 x3 x4 x5 x6 x7 x8 (ix4 b s w j) else ((1 / 8 : ℝ) : EReal) := by
  have hl := d.len_le b
  pointwise [val_main_v107, val_main_v95, val_main_v94, val_main_v93, val_main_c_11, val_main_cst_15, val_main_call4_v0,
    val_main_call4_v1, val_main_call4_v2]
  refine (select_iff (p := s.val < d.len b) ((sgt_iff _ _).trans ?_) _ _).trans ?_
  · rw [v85 H, word_toInt _ (by omega)]
    show (0 : ℤ) < _ ↔ _
    omega
  · exact congrArg (fun z => if s.val < d.len b then _ else z) ofBits_eighth

/-- A weighted mean of the attended hidden states, projected: the same mean of their projections. -/
theorem proj_mean (P a : Fin 8 → ℝ) (h : Fin 8 → Fin 256 → ℝ) (W : Fin 256 → ℝ) :
    ∑ k, (∑ j, P j * (h j k * a j)) * W k = ∑ j, P j * (a j * ∑ k, h j k * W k) := by
  simp only [Finset.sum_mul, Finset.mul_sum]
  rw [Finset.sum_comm]
  exact Finset.sum_congr rfl fun j _ => Finset.sum_congr rfl fun k _ => by ring

/-- The scores. -/
theorem v112 (H : Holds d x0 x1 x2 x3 x4 x5 x6 x7 x8 x9 x10) (b : Fin 4) (s : Fin 512) (w : Fin 8) (c : Fin 2) :
    val_main_v112 (F := Ideal) x0 x1 x3 x4 x5 x6 x7 x8 x9 x10 (ix4 b s w c) = (d.score c b w s : EReal) := by
  pointwise [val_main_v112, val_main_v111, val_main_v110, val_main_v109, val_main_v108]
  simp only [v107 H, v38 H, H.Ws, H.bs]
  unfold Data.score score pooled
  by_cases hs : s.val < d.len b
  · obtain ⟨M, hM⟩ := v106 H b s w hs
    simp only [if_pos hs, hM, mul_real, coe_sum, add_real]
    refine congrArg (fun x => ((x + d.bs c : ℝ) : EReal)) ?_
    rw [proj_mean, ← pool_shift _ _ _ M, Finset.sum_div]
    refine Finset.sum_congr rfl fun j _ => ?_
    rw [← ite_zero_mul, div_mul_eq_mul_div]
    rfl
  · simp only [if_neg hs, mul_real, coe_sum, add_real]
    refine congrArg (fun x => ((x + d.bs c : ℝ) : EReal)) ?_
    rw [proj_mean, Finset.sum_div]
    refine Finset.sum_congr rfl fun j _ => ?_
    rw [one_div_mul_eq_div]
    rfl

end Cert.ReferenceIdeal.Read

end
-- ==== Proof.RefLoss.lean ====
/-
  The reference's two losses, over arguments that hold the problem's numbers.
-/
module

public import proofs.«01_k».proof.Proof.RefScore
public import Idealize.ShloMosaic.Lib.IndicatorCount

@[expose] public section

set_option maxRecDepth 16384

noncomputable section

namespace Cert.ReferenceIdeal.Read

open Idealize.ShloMosaic Idealize.ShloMosaic.TcCoe
open Cert.ReferenceIdeal.Gen Cert.Span

variable {x0 : Vec Ideal S4x512x256 .f32} {x1 : Vec Ideal S4 .i32} {x2 : Vec Ideal S4x8x2 .i32} {x3 x4 : Vec Ideal S256 .f32}
  {x5 : Vec Ideal S256x64 .f32} {x6 : Vec Ideal S64 .f32} {x7 : Vec Ideal S64x1 .f32} {x8 : Vec Ideal S1 .f32}
  {x9 : Vec Ideal S256x2 .f32} {x10 : Vec Ideal S2 .f32} {d : Data}

/-! ## The golden spans -/

/-- The remainder moved to the divisor's sign, the signs compared as bits. -/
theorem modWord_ne (a n m : BitVec 32) (h : n = m) :
    Scalar.select (IntOp.andi (IntOp.cmpi .ne (IntOp.cmpi .slt (IntOp.remsi .host a n) 0#32) (IntOp.cmpi .slt n 0#32))
        (IntOp.cmpi .ne (IntOp.remsi .host a n) 0#32))
      (IntOp.addi (IntOp.remsi .host a n) n) (IntOp.remsi .host a n) = modWord .host a m := by
  have e : ∀ p q : BitVec 1, IntOp.cmpi .ne p q = IntOp.xori p q := by decide
  rw [e, h]
  rfl

theorem v118 (H : Holds d x0 x1 x2 x3 x4 x5 x6 x7 x8 x9 x10) (b : Fin 4) (g : Fin 8) :
    val_main_v118 (F := Ideal) x1 x2 (ix2 b g) = word (d.start b g).val := by
  pointwise [val_main_v118, val_main_call5_v16, val_main_call5_v15, val_main_call5_v14, val_main_call5_v13, val_main_call5_v12,
    val_main_call5_v11, val_main_call5_v10, val_main_call5_v9, val_main_call5_v8, val_main_call5_v7, val_main_call5_v6,
    val_main_call5_v5, val_main_call5_v4, val_main_call5_v3, val_main_call5_v2, val_main_call5_v1, val_main_call5_v0,
    val_main_call5_c, val_main_call5_c_0, val_main_call5_c_1, val_main_call5_c_2, val_main_call5_c_3, val_main_v117, val_main_v116,
    val_main_v115, val_main_v114, val_main_v113, val_main_c_16]
  rw [H.len, H.golden, d.divisor_word, ← d.start_word .host]
  exact modWord_ne _ _ _ rfl

theorem v121 (H : Holds d x0 x1 x2 x3 x4 x5 x6 x7 x8 x9 x10) (b : Fin 4) (g : Fin 8) :
    val_main_v121 (F := Ideal) x2 (ix2 b g) = word (d.width b g).val := by
  pointwise [val_main_v121, val_main_call6_v14, val_main_call6_v13, val_main_call6_v12, val_main_call6_v11, val_main_call6_v10,
    val_main_call6_v9, val_main_call6_v8, val_main_call6_v7, val_main_call6_v6, val_main_call6_v5, val_main_call6_v4,
    val_main_call6_v3, val_main_call6_v2, val_main_call6_v1, val_main_call6_v0, val_main_call6_c, val_main_call6_c_0,
    val_main_call6_c_1, val_main_call6_c_2, val_main_call6_c_3, val_main_v120, val_main_v119, val_main_c_17]
  rw [H.golden, ← d.width_word .host]
  exact modWord_ne _ _ _ rfl

/-- An index that is not negative is not wrapped. -/
theorem wrap_word (k : ℕ) (hk : k < 2147483648) (n : BitVec 32) :
    Scalar.select (IntOp.cmpi .slt (word k) 0#32) (IntOp.addi (word k) n) (word k) = word k := by
  refine (select_iff (p := False) ((slt_iff _ _).trans ⟨fun h => ?_, False.elim⟩) _ _).trans (if_neg not_false)
  rw [word_toInt k (by omega)] at h
  have h : (k : ℤ) < 0 := h
  omega

theorem v143 (H : Holds d x0 x1 x2 x3 x4 x5 x6 x7 x8 x9 x10) (b : Fin 4) (g : Fin 8) (c : Fin 3) :
    val_main_v143 (F := Ideal) x1 x2 (ix3 b g c)
      = if c.val < 1 then word b.val else if c.val - 1 < 1 then word (d.start b g).val else word (d.width b g).val := by
  pointwise [val_main_v143, val_main_v142, val_main_v141, val_main_v140, val_main_v139, val_main_v138, val_main_v137, val_main_v136,
    val_main_v135, val_main_v134, val_main_v133, val_main_v132, val_main_v131, val_main_v130, val_main_v129, val_main_v128,
    val_main_v127, val_main_v126, val_main_v125, val_main_v124, val_main_v123, val_main_v122, val_main_c_18, val_main_c_19,
    val_main_c_20, val_main_c_21, val_main_c_22, val_main_c_23]
  rw [v118 H, v121 H, ofNat_eq_word b.val, wrap_word b.val (by omega), wrap_word (d.start b g).val (by omega),
    wrap_word (d.width b g).val (by omega)]
  rfl

/-- A golden span's scores. -/
theorem v144 (H : Holds d x0 x1 x2 x3 x4 x5 x6 x7 x8 x9 x10) (b : Fin 4) (g : Fin 8) (c : Fin 2) :
    val_main_v144 (F := Ideal) x0 x1 x2 x3 x4 x5 x6 x7 x8 x9 x10 (ix3 b g c) = (d.score c b (d.width b g) (d.start b g) : EReal) := by
  unfold val_main_v144
  rw [gather_golden _ _ b g c b (d.start b g) (d.width b g) (v143 H b g 0) (v143 H b g 1) (v143 H b g 2), v112 H]

/-- The logarithm of a two-class softmax. -/
theorem log_softmax (f : Fin 2 → ℝ) (c : Fin 2) :
    (f c : EReal) - max ⊥ (Finset.fold max ⊥ (fun x => (f x : EReal)) Finset.univ)
        - Ideal.log (∑ x, Ideal.exp ((f x : EReal) - max ⊥ (Finset.fold max ⊥ (fun x => (f x : EReal)) Finset.univ)))
      = ((f c - lse2 (f 0) (f 1) : ℝ) : EReal) := by
  obtain ⟨M, hM⟩ := fold_max_coe f
  rw [hM, max_eq_right (bot_le : (⊥ : EReal) ≤ M)]
  simp only [sub_real, Ideal.exp_coe, coe_sum]
  rw [log_real _ (sum_exp_pos _), sub_real, Fin.sum_univ_two, sub_sub, lse_shift]
  rfl

/-- The golden loss. -/
theorem v150 (H : Holds d x0 x1 x2 x3 x4 x5 x6 x7 x8 x9 x10) :
    val_main_v150 (F := Ideal) x0 x1 x2 x3 x4 x5 x6 x7 x8 x9 x10 ix0 = (d.goldLoss : EReal) := by
  pointwise [val_main_v150, val_main_v149, val_main_v148, val_main_v147, val_main_v146, val_main_v145, val_main_cst_24,
    val_main_cst_25, val_main_call7_v10, val_main_call7_v9, val_main_call7_v8, val_main_call7_v7, val_main_call7_v6,
    val_main_call7_v5, val_main_call7_v4, val_main_call7_v3, val_main_call7_v2, val_main_call7_v1, val_main_call7_v0,
    val_main_call7_cst, val_main_call7_cst_0, val_main_call7_cst_1]
  have hl := fun b g => log_softmax (fun c => d.score c b (d.width b g) (d.start b g)) 1
  beta_reduce at hl
  simp only [v144 H, ofBits_bot, ofBits_32, hl, coe_sum]
  rw [div_real _ _ (by norm_num), ← EReal.coe_neg]
  rfl

/-! ## The negative spans -/

theorem fold_ori_iff (f : Fin 8 → BitVec 1) : Finset.fold IntOp.ori 0#1 f Finset.univ = 1#1 ↔ ∃ g, f g = 1#1 := by
  have key : ∀ S : Finset (Fin 8), Finset.fold IntOp.ori 0#1 f S = 1#1 ↔ ∃ g ∈ S, f g = 1#1 := by
    intro S
    induction S using Finset.induction_on with
    | empty => exact ⟨fun h => absurd (show (0#1 : BitVec 1) = 1#1 from h) (by decide), fun ⟨g, hg, _⟩ => absurd hg (Finset.notMem_empty g)⟩
    | insert a S ha ih =>
      rw [Finset.fold_insert ha, ori_iff, ih]
      simp only [Finset.mem_insert, exists_eq_or_imp]
  simpa using key Finset.univ

theorem v173 (H : Holds d x0 x1 x2 x3 x4 x5 x6 x7 x8 x9 x10) (b : Fin 4) (s : Fin 512) (w : Fin 8) :
    val_main_v173 (F := Ideal) x1 x2 (ix3 b s w) = 1#1 ↔ d.IsNeg b w s := by
  pointwise [val_main_v173, val_main_v172, val_main_v171, val_main_v170, val_main_v169, val_main_v168, val_main_v167, val_main_v166,
    val_main_v165, val_main_v164, val_main_v163, val_main_v162, val_main_v161, val_main_v160, val_main_v159, val_main_v158,
    val_main_v157, val_main_v156, val_main_v155, val_main_v154, val_main_v153, val_main_v152, val_main_v151, val_main_c_26,
    val_main_c_27, val_main_c_28, val_main_v82, val_main_v81, val_main_v80, val_main_v79, val_main_v78, val_main_v77, val_main_v76,
    val_main_v75, val_main_v74, val_main_v73, val_main_v72, val_main_v71, val_main_v70, val_main_v69, val_main_v68, val_main_v67,
    val_main_c_9, val_main_v66, val_main_v65, val_main_v64, val_main_v63, val_main_v62, val_main_v61, val_main_v60, val_main_v59,
    val_main_v58, val_main_v57, val_main_v56, val_main_v55, val_main_v54, val_main_v53, val_main_v52, val_main_v0, val_main_c_7,
    val_main_c_8]
  have hn : ∀ a : BitVec 1, ~~~a = 1#1 ↔ ¬a = 1#1 := by decide
  rw [andi_iff, hn, fold_ori_iff, H.len, ofNat_eq_word s.val, ofNat_eq_word w.val]
  simp only [v118 H, v121 H]
  exact Iff.rfl

theorem uitofp_bit (c : BitVec 1) : FloatOps.uitofp (F := Ideal) .f32 c = (bit c : EReal) := by
  have h : c.toNat = if c = 1#1 then 1 else 0 := (by decide : ∀ c : BitVec 1, c.toNat = if c = 1#1 then 1 else 0) c
  show (((c.toNat : ℕ) : ℝ) : EReal) = _
  rw [h]
  unfold bit
  split <;> simp

/-- The sum of the negative spans' losses. -/
theorem v180 (H : Holds d x0 x1 x2 x3 x4 x5 x6 x7 x8 x9 x10) :
    val_main_v180 (F := Ideal) x0 x1 x2 x3 x4 x5 x6 x7 x8 x9 x10 ix0
      = ((∑ b, ∑ w, ∑ s, d.neg b w s * (d.lse b w s - d.score 0 b w s) : ℝ) : EReal) := by
  pointwise [val_main_v180, val_main_v179, val_main_v178, val_main_v177, val_main_v176, val_main_v175, val_main_v174,
    val_main_cst_29, val_main_call8_v10, val_main_call8_v9, val_main_call8_v8, val_main_call8_v7, val_main_call8_v6,
    val_main_call8_v5, val_main_call8_v4, val_main_call8_v3, val_main_call8_v2, val_main_call8_v1, val_main_call8_v0,
    val_main_call8_cst, val_main_call8_cst_0, val_main_call8_cst_1]
  have hl := fun b s w => log_softmax (fun c => d.score c b w s) 0
  beta_reduce at hl
  simp only [v112 H, ofBits_bot, hl, uitofp_bit, ← EReal.coe_neg, mul_real, coe_sum]
  refine congrArg _ (Finset.sum_congr rfl fun b _ => ?_)
  rw [Finset.sum_comm]
  refine Finset.sum_congr rfl fun w _ => Finset.sum_congr rfl fun s _ => ?_
  rw [d.bit_neg b w s (v173 H b s w), neg_sub, mul_comm]
  rfl

/-- The number of negative spans, at least one. -/
theorem v184 (H : Holds d x0 x1 x2 x3 x4 x5 x6 x7 x8 x9 x10) :
    val_main_v184 (F := Ideal) x1 x2 ix0 = ((max (∑ b, ∑ w, ∑ s, d.neg b w s) 1 : ℝ) : EReal) := by
  pointwise [val_main_v184, val_main_v183, val_main_v182, val_main_v181, val_main_c_30, val_main_c_31]
  rw [IndicatorCount.fold_addi_setWidth_eq_card]
  have hc : ∑ b, ∑ w, ∑ s, d.neg b w s = ((Finset.univ.filter fun k : Fin 4 × Fin 512 × Fin 8 =>
      val_main_v173 (F := Ideal) x1 x2 (ix3 k.1 k.2.1 k.2.2) = 1#1).card : ℝ) := by
    rw [← Finset.sum_boole, Fintype.sum_prod_type]
    simp only [Fintype.sum_prod_type]
    refine Finset.sum_congr rfl fun b _ => ?_
    rw [Finset.sum_comm]
    exact Finset.sum_congr rfl fun s _ => Finset.sum_congr rfl fun w _ => (d.bit_neg b w s (v173 H b s w)).symm
  have hn := Finset.card_le_univ (Finset.univ.filter fun k : Fin 4 × Fin 512 × Fin 8 =>
    val_main_v173 (F := Ideal) x1 x2 (ix3 k.1 k.2.1 k.2.2) = 1#1)
  rw [show Fintype.card (Fin 4 × Fin 512 × Fin 8) = 16384 from by simp] at hn
  rw [hc]
  generalize (Finset.univ.filter fun k : Fin 4 × Fin 512 × Fin 8 =>
    val_main_v173 (F := Ideal) x1 x2 (ix3 k.1 k.2.1 k.2.2) = 1#1).card = n at hn
  rw [ofNat_eq_word n, show (1#32 : BitVec 32) = word 1 from rfl, maxsi_word _ _ (by omega) (by omega)]
  show (((word (max (n : ℤ) 1)).toInt : ℝ) : EReal) = _
  rw [word_toInt _ (by omega)]
  push_cast
  rfl

/-- The negative loss. -/
theorem v185 (H : Holds d x0 x1 x2 x3 x4 x5 x6 x7 x8 x9 x10) :
    val_main_v185 (F := Ideal) x0 x1 x2 x3 x4 x5 x6 x7 x8 x9 x10 ix0 = (d.negLoss : EReal) := by
  pointwise [val_main_v185]
  rw [v180 H, v184 H, div_real _ _ (by positivity)]
  rfl

end Cert.ReferenceIdeal.Read

end
-- ==== Proof.Pre.lean ====
/-
  The precondition read back: arguments that meet it are those of a problem over the reals, for the kernel's program and
  for the reference.
-/
module

public import proofs.«01_k».proof.Pre_lengths_in_range_and_finite
public import proofs.«01_k».proof.Proof.KernelValue
public import proofs.«01_k».proof.Proof.RefLoss
public import Idealize.ShloMosaic.Lib.ReduceAll

@[expose] public section

set_option maxRecDepth 16384

noncomputable section

namespace Cert.Pre_lengths_in_range_and_finite

open Idealize.ShloMosaic Cert.Span

/-- The shapes the predicate's operations take. -/
instance facts : Facts where
  bcast_S_S4 := by decide
  reducesTo_S4_S_d0 := by decide
  h_S_ := by decide
  bcast_S_S4x512x256 := by decide
  reducesTo_S4x512x256_S_d0_1_2 := by decide
  bcast_S_S256 := by decide
  reducesTo_S256_S_d0 := by decide
  bcast_S_S256x64 := by decide
  reducesTo_S256x64_S_d0_1 := by decide
  bcast_S_S64 := by decide
  reducesTo_S64_S_d0 := by decide
  bcast_S_S64x1 := by decide
  reducesTo_S64x1_S_d0_1 := by decide
  bcast_S_S1 := by decide
  reducesTo_S1_S_d0 := by decide
  bcast_S_S256x2 := by decide
  reducesTo_S256x2_S_d0_1 := by decide
  bcast_S_S2 := by decide
  reducesTo_S2_S_d0 := by decide

instance : Subsingleton S_.Idx := ⟨fun _ _ => funext fun i => i.elim0⟩

/-- An extended real whose magnitude is below the top is a real. -/
theorem real_of_lt (x : EReal) (h : Ideal.cmp .olt (max x (-x)) (Ideal.ofBits .f32 0x7F800000#32) = 1#1) : x = (x.toReal : EReal) := by
  rw [ofBits_top] at h
  have h' : max x (-x) < ⊤ := by simpa [Ideal.cmp, bit_eq_one] using h
  refine (EReal.coe_toReal (ne_top_of_lt (lt_of_le_of_lt (le_max_left _ _) h')) fun hb => ?_).symm
  rw [hb] at h'
  exact absurd h' (by simp)

/-- An array whose entries are all finite. -/
theorem finite_all {s : Shape} {axes : List (Fin s.rank)} (x : FVec Ideal s .f32) (hb : S_.BroadcastsInDim s (![] : Fin 0 → Fin s.rank))
    (hr : s.ReducesTo axes S_) (hs : 0 < S_.numel)
    (e : Host.reduce IntOp.andi (cmpf .olt (Host.absf x) (broadcastInDim s ![] hb (constant S_ .f32 0x7F800000#32))) (constantI S_ 1 1#1) hr hs ix0 = 1#1)
    (i : s.Idx) : x i = ((x i).toReal : EReal) :=
  real_of_lt _ (Host.reduce_andi_all _ _ _ _ _ e i)

/-- An array whose entries are all zero. -/
theorem zero_all {s : Shape} {axes : List (Fin s.rank)} (x : FVec Ideal s .f32) (hb : S_.BroadcastsInDim s (![] : Fin 0 → Fin s.rank))
    (hr : s.ReducesTo axes S_) (hs : 0 < S_.numel)
    (e : Host.reduce IntOp.andi (cmpf .oeq x (broadcastInDim s ![] hb (constant S_ .f32 0x00000000#32))) (constantI S_ 1 1#1) hr hs ix0 = 1#1)
    (i : s.Idx) : x i = 0 := by
  have h : Ideal.cmp .oeq (x i) (Ideal.ofBits .f32 0x00000000#32) = 1#1 := Host.reduce_andi_all _ _ _ _ _ e i
  simpa [Ideal.cmp, Ideal.ofBits, Ideal.ieee, bit_eq_one] using h

/-- Words all in `0..512`. -/
theorem len_all (x : IVec S4 32) (hb : S_.BroadcastsInDim S4 (![] : Fin 0 → Fin S4.rank)) (hr : S4.ReducesTo [0] S_) (hs : 0 < S_.numel)
    (e : Host.reduce IntOp.andi (andi (cmpi .sge x (broadcastInDim S4 ![] hb (constantI S_ 32 0#32)))
      (cmpi .sle x (broadcastInDim S4 ![] hb (constantI S_ 32 512#32)))) (constantI S_ 1 1#1) hr hs ix0 = 1#1)
    (i : S4.Idx) : 0 ≤ (x i).toInt ∧ (x i).toInt ≤ 512 := by
  obtain ⟨h0, h1⟩ := IntOp.andi_eq_one.1 (Host.reduce_andi_all _ _ _ _ _ e i)
  exact ⟨(sge_iff _ _).1 h0, (sle_iff _ _).1 h1⟩

/-- What arguments that meet the precondition are. -/
theorem holds (x0 : FVec Ideal S4x512x256 .f32) (x1 : IVec S4 32) (x2 : IVec S4x8x2 32) (x3 x4 : FVec Ideal S256 .f32)
    (x5 : FVec Ideal S256x64 .f32) (x6 : FVec Ideal S64 .f32) (x7 : FVec Ideal S64x1 .f32) (x8 : FVec Ideal S1 .f32)
    (x9 : FVec Ideal S256x2 .f32) (x10 : FVec Ideal S2 .f32)
    (e : fn (F := Ideal) x0 x1 x2 x3 x4 x5 x6 x7 x8 x9 x10 = fun _ => 1#1) :
    ∃ d : Data, KernelIdeal.Batch.Holds d x0 x1 x2 (shapeCast KernelIdeal.S256x1 x3 KernelIdeal.Gen.shapeCasts_S256_S256x1)
        (shapeCast KernelIdeal.S256x1 x4 KernelIdeal.Gen.shapeCasts_S256_S256x1) x5 x7 x8 x9 x10
      ∧ ReferenceIdeal.Read.Holds d x0 x1 x2 x3 x4 x5 x6 x7 x8 x9 x10 := by
  replace e := congrFun e ix0
  unfold fn fn_part1 fn_part2 at e
  dsimp only at e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨h1, h0⟩ := IntOp.andi_eq_one.1 e
  have hl := len_all x1 _ _ _ h1
  have hn : ∀ b : Fin 4, ((x1 (ix1 b)).toInt.toNat : ℤ) = (x1 (ix1 b)).toInt := fun b => Int.toNat_of_nonneg (hl _).1
  refine ⟨{ h := fun b s k => (x0 (ix3 b s k)).toReal, len := fun b => (x1 (ix1 b)).toInt.toNat,
            len_le := fun b => by have := (hl (ix1 b)).2; have := hn b; omega,
            golden := fun b g i => x2 (ix3 b g i), q := fun k => (x3 (ix1 k)).toReal, tw := fun k => (x4 (ix1 k)).toReal,
            W1 := fun k j => (x5 (ix2 k j)).toReal, W2 := fun j => (x7 (ix2 j 0)).toReal, b2 := (x8 (ix1 0)).toReal,
            Ws := fun k c => (x9 (ix2 k c)).toReal, bs := fun c => (x10 (ix1 c)).toReal }, ?_, ?_⟩
  · exact
      { h := fun b s k => finite_all x0 _ _ _ h0 _
        len := fun b => by show _ = word _; rw [hn]; exact eq_word _
        golden := fun _ _ _ => rfl
        q := fun k => (KernelIdeal.Batch.column_apply x3 k).trans (finite_all x3 _ _ _ h3 _)
        tw := fun k => (KernelIdeal.Batch.column_apply x4 k).trans (finite_all x4 _ _ _ h4 _)
        W1 := fun k j => finite_all x5 _ _ _ h5 _
        W2 := fun j => finite_all x7 _ _ _ h7 _
        b2 := finite_all x8 _ _ _ h8 _
        Ws := fun k c => finite_all x9 _ _ _ h9 _
        bs := fun c => finite_all x10 _ _ _ h10 _ }
  · exact
      { h := fun b s k => finite_all x0 _ _ _ h0 _
        len := fun b => by show _ = word _; rw [hn]; exact eq_word _
        golden := fun _ _ _ => rfl
        q := fun k => finite_all x3 _ _ _ h3 _
        tw := fun k => finite_all x4 _ _ _ h4 _
        W1 := fun k j => finite_all x5 _ _ _ h5 _
        b1 := fun j => zero_all x6 _ _ _ h6 _
        W2 := fun j => finite_all x7 _ _ _ h7 _
        b2 := finite_all x8 _ _ _ h8 _
        Ws := fun k c => finite_all x9 _ _ _ h9 _
        bs := fun c => finite_all x10 _ _ _ h10 _ }

end Cert.Pre_lengths_in_range_and_finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.KernelValue
public import proofs.«01_k».proof.Proof.RefLoss
public import proofs.«01_k».proof.Proof.Pre
public import Idealize.ShloMosaic.Lib.StableHlo.RunHlo
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference's frame, from its run; the counters because it declares no semaphore. -/
theorem frame_reference : Cert.quiescent_ReferenceIdeal (hReferenceIdeal := Cert.ReferenceIdeal.Gen.facts) := by
  intro m g _
  exact (θ_run Cert.ReferenceIdeal.defs _ _).mono (fun r h => ⟨fun c => (h c).2.2.2,
      Idealize.ShloMosaic.sem_eq_zero_of_no_sems (by decide) r.2⟩)
    (Cert.ReferenceIdeal.Value.run (F := Ideal) m g)

theorem frame_reference_pre : Cert.quiescent_ReferenceIdeal_pre_lengths_in_range_and_finite
    (hReferenceIdeal := Cert.ReferenceIdeal.Gen.facts) (hPre_lengths_in_range_and_finite := Cert.Pre_lengths_in_range_and_finite.facts) :=
  fun m g _ => frame_reference m g trivial

section Kernel

open Cert.KernelIdeal Cert.KernelIdeal.Gen Cert.KernelIdeal.Batch Cert.Span

variable (m : (ℓ : Loc KernelIdeal.nD KernelIdeal.τ KernelIdeal.sig) → Buf (Elt Ideal) ℓ) (g : Dev KernelIdeal.nD → PrngReg) (c : Dev KernelIdeal.nD)

/-- The kernel's blocks hold the problem its arguments hold. -/
theorem blocks_hold {d : Data} (H : Holds d (m ((c : Thread KernelIdeal.nD KernelIdeal.τ).loc KernelIdeal.main_arg0)) (m ((c : Thread KernelIdeal.nD KernelIdeal.τ).loc KernelIdeal.main_arg1))
      (m ((c : Thread KernelIdeal.nD KernelIdeal.τ).loc KernelIdeal.main_arg2))
      (shapeCast KernelIdeal.S256x1 (m ((c : Thread KernelIdeal.nD KernelIdeal.τ).loc KernelIdeal.main_arg3)) KernelIdeal.Gen.shapeCasts_S256_S256x1)
      (shapeCast KernelIdeal.S256x1 (m ((c : Thread KernelIdeal.nD KernelIdeal.τ).loc KernelIdeal.main_arg4)) KernelIdeal.Gen.shapeCasts_S256_S256x1)
      (m ((c : Thread KernelIdeal.nD KernelIdeal.τ).loc KernelIdeal.main_arg5)) (m ((c : Thread KernelIdeal.nD KernelIdeal.τ).loc KernelIdeal.main_arg7))
      (m ((c : Thread KernelIdeal.nD KernelIdeal.τ).loc KernelIdeal.main_arg8)) (m ((c : Thread KernelIdeal.nD KernelIdeal.τ).loc KernelIdeal.main_arg9))
      (m ((c : Thread KernelIdeal.nD KernelIdeal.τ).loc KernelIdeal.main_arg10))) :
    Holds d (iblk m c 0 t0_0) (iblk m c 1 t0_0) (iblk m c 2 t0_0) (iblk m c 3 t0_0) (iblk m c 4 t0_0)
      (iblk m c 5 t0_0) (iblk m c 6 t0_0) (iblk m c 7 t0_0) (iblk m c 8 t0_0) (iblk m c 9 t0_0) := by
  rw [iblk0, iblk1, iblk2, iblk3, iblk4, iblk5, iblk6, iblk7, iblk8, iblk9, entry3, entry4]
  exact H

end Kernel

/-- The kernel's three results are the reference's. -/
theorem algebraic : Cert.algebraic_KernelIdeal_ReferenceIdeal_pre_lengths_in_range_and_finite
    (hKernelIdeal := Cert.KernelIdeal.Gen.facts) (hReferenceIdeal := Cert.ReferenceIdeal.Gen.facts)
    (hPre_lengths_in_range_and_finite := Cert.Pre_lengths_in_range_and_finite.facts) := by
  intro m g m' g' hpre hargs
  refine ⟨fun c => shapeCast KernelIdeal.S_ ((KernelIdeal.Gen.dats m 0 c).arrAt 11 KernelIdeal.cfg0.N) KernelIdeal.Gen.shapeCasts_S1x1_S_,
    fun c => shapeCast KernelIdeal.S_ ((KernelIdeal.Gen.dats m 0 c).arrAt 12 KernelIdeal.cfg0.N) KernelIdeal.Gen.shapeCasts_S1x1_S_,
    fun c => shapeCast KernelIdeal.S4x512x8x2 ((KernelIdeal.Gen.dats m 0 c).arrAt 10 KernelIdeal.cfg0.N) KernelIdeal.Gen.shapeCasts_S4x512x16_S4x512x8x2,
    ?_, ?_⟩
  · exact (θ_run Cert.KernelIdeal.defs _ _).mono (fun r h c => ⟨KernelIdeal.Batch.out_gold c h.1, KernelIdeal.Batch.out_neg c h.1,
        KernelIdeal.Batch.out_scores c h.1, h.2 c⟩)
      (θ_run_and (KernelIdeal.Gen.run_main m g) (KernelIdeal.Gen.unchanged m g))
  · refine (θ_run Cert.ReferenceIdeal.defs _ _).mono (fun r h c => ?_) (Cert.ReferenceIdeal.Value.run (F := Ideal) m' g')
    obtain ⟨d, HK, HR⟩ := Cert.Pre_lengths_in_range_and_finite.holds _ _ _ _ _ _ _ _ _ _ _ (hpre c)
    replace HK := blocks_hold m c HK
    obtain ⟨a0, a1, a2, a3, a4, a5, a6, a7, a8, a9, a10⟩ := hargs c
    rw [← a0, ← a1, ← a2, ← a3, ← a4, ← a5, ← a6, ← a7, ← a8, ← a9, ← a10] at HR
    refine ⟨((h c).1.trans (Cert.ReferenceIdeal.Read.val_main_v150_eq _)).trans (funext fun i => ?_),
      ((h c).2.1.trans (Cert.ReferenceIdeal.Read.val_main_v185_eq _)).trans (funext fun i => ?_),
      ((h c).2.2.1.trans (Cert.ReferenceIdeal.Read.val_main_v112_eq _)).trans (funext fun i => ?_), (h c).2.2.2⟩
    · rw [show i = ix0 from (ix0_eta i).symm]
      exact (Cert.ReferenceIdeal.Read.v150 HR).trans (KernelIdeal.Batch.gold_value HK).symm
    · rw [show i = ix0 from (ix0_eta i).symm]
      exact (Cert.ReferenceIdeal.Read.v185 HR).trans (KernelIdeal.Batch.neg_value HK).symm
    · rw [eq_ix4 i]
      exact (Cert.ReferenceIdeal.Read.v112 HR _ _ _ _).trans (KernelIdeal.Batch.scores_value HK _ _ _ _).symm

theorem claim : Cert.Claim := ⟨Cert.Kernel.Gen.facts, Cert.KernelIdeal.Gen.facts, Cert.ReferenceIdeal.Gen.facts,
  Cert.Pre_lengths_in_range_and_finite.facts,
  fun m ρ _ => Cert.Kernel.Gen.frame m ρ, fun m ρ _ => Cert.KernelIdeal.Gen.frame m ρ, fun m ρ _ => Cert.KernelIdeal.Gen.frame m ρ,
  frame_reference, frame_reference_pre, trivial, algebraic⟩

end Cert.Proof

end
